-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_rapidity [hPre_finite_with_rapidity : Cert.Pre_finite_with_rapidity.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_rapidity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_rapidity [hPre_finite_with_rapidity : Cert.Pre_finite_with_rapidity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_rapidity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_with_rapidity [hKernelIdeal : Cert.KernelIdeal.Facts] [hPre_finite_with_rapidity : Cert.Pre_finite_with_rapidity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_rapidity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_with_rapidity [hReferenceIdeal : Cert.ReferenceIdeal.Facts] [hPre_finite_with_rapidity : Cert.Pre_finite_with_rapidity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_rapidity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_with_rapidity [hKernelIdeal : Cert.KernelIdeal.Facts] [hReferenceIdeal : Cert.ReferenceIdeal.Facts] [hPre_finite_with_rapidity : Cert.Pre_finite_with_rapidity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_rapidity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_with_rapidity : Cert.Pre_finite_with_rapidity.Facts),
    quiescent_Kernel (hKernel := hKernel)
    ∧ quiescent_KernelIdeal (hKernelIdeal := hKernelIdeal)
    ∧ quiescent_KernelIdeal_pre_finite_with_rapidity (hKernelIdeal := hKernelIdeal) (hPre_finite_with_rapidity := hPre_finite_with_rapidity)
    ∧ quiescent_ReferenceIdeal (hReferenceIdeal := hReferenceIdeal)
    ∧ quiescent_ReferenceIdeal_pre_finite_with_rapidity (hReferenceIdeal := hReferenceIdeal) (hPre_finite_with_rapidity := hPre_finite_with_rapidity)
    ∧ preserves_Kernel_KernelIdeal
    ∧ algebraic_KernelIdeal_ReferenceIdeal_pre_finite_with_rapidity (hKernelIdeal := hKernelIdeal) (hReferenceIdeal := hReferenceIdeal) (hPre_finite_with_rapidity := hPre_finite_with_rapidity)
-- ==== Pre_finite_with_rapidity.lean ====
abbrev S32x4x128 : Shape := ⟨3, ![32, 4, 128]⟩
abbrev S2 : Shape := ⟨1, ![2]⟩
abbrev S64x2 : Shape := ⟨2, ![64, 2]⟩
abbrev S64 : Shape := ⟨1, ![64]⟩
abbrev S64x64 : Shape := ⟨2, ![64, 64]⟩
abbrev S32x1x128 : Shape := ⟨3, ![32, 1, 128]⟩
abbrev S32x128 : Shape := ⟨2, ![32, 128]⟩
abbrev S_ : Shape := ⟨0, ![]⟩

class Facts : Prop where
  slices_S32x4x128_S32x1x128_0_2_0 : S32x4x128.Slices ![0, 2, 0] S32x1x128
  shapeCasts_S32x1x128_S32x128 : S32x1x128.ShapeCasts S32x128
  slices_S32x4x128_S32x1x128_0_3_0 : S32x4x128.Slices ![0, 3, 0] S32x1x128
  bcast_S_S32x128 : S_.BroadcastsInDim S32x128 (![] : Fin 0 → Fin S32x128.rank)
  bcast_S_S32x4x128 : S_.BroadcastsInDim S32x4x128 (![] : Fin 0 → Fin S32x4x128.rank)
  reducesTo_S32x4x128_S_d0_1_2 : S32x4x128.ReducesTo [0, 1, 2] S_
  h_S_ : 0 < S_.numel
  bcast_S_S2 : S_.BroadcastsInDim S2 (![] : Fin 0 → Fin S2.rank)
  reducesTo_S2_S_d0 : S2.ReducesTo [0] S_
  bcast_S_S64x2 : S_.BroadcastsInDim S64x2 (![] : Fin 0 → Fin S64x2.rank)
  reducesTo_S64x2_S_d0_1 : S64x2.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_clip {F : FTy → Type} [FloatOps F] (arg0 : FVec F S32x128 .f32) (arg1 : FVec F S_ .f32) : FVec F S32x128 .f32 :=
  let v0 : FVec F S_ .f32 := id arg1
  let v1 : FVec F S32x128 .f32 := broadcastInDim S32x128 ![] bcast_S_S32x128 v0
  let v2 : FVec F S32x128 .f32 := maximumf v1 arg0
  v2

def fn_part5 {F : FTy → Type} [FloatOps F] (main_arg13 : FVec F S64 .f32) (main_v84 : IVec S32x128 1) (main_v89 : IVec S32x128 1) : IVec S32x128 1 :=
  let main_v90 : IVec S32x128 1 := andi main_v84 main_v89
  let main_v91 : FVec F S64 .f32 := Host.absf main_arg13
  let main_cst_28 : FVec F S_ .f32 := constant S_ .f32 0x7F800000#32
  let main_v92 : FVec F S64 .f32 := broadcastInDim S64 ![] bcast_S_S64 main_cst_28
  let main_v93 : IVec S64 1 := cmpf .olt main_v91 main_v92
  let main_c_29 : IVec S_ 1 := constantI S_ 1 1#1
  let main_v94 : IVec S_ 1 := (fun x v => Host.reduce IntOp.andi x v reducesTo_S64_S_d0 h_S_) main_v93 main_c_29
  let main_v95 : IVec S32x128 1 := broadcastInDim S32x128 ![] bcast_S_S32x128 main_v94
  let main_v96 : IVec S32x128 1 := andi main_v90 main_v95
  main_v96

def fn_part4 {F : FTy → Type} [FloatOps F] (main_arg10 : FVec F S64 .f32) (main_arg11 : FVec F S64x64 .f32) (main_arg12 : FVec F S64 .f32) (main_arg13 : FVec F S64 .f32) (main_v66 : IVec S32x128 1) (main_v71 : IVec S32x128 1) : IVec S32x128 1 :=
  let main_v72 : IVec S32x128 1 := andi main_v66 main_v71
  let main_v73 : FVec F S64 .f32 := Host.absf main_arg10
  let main_cst_22 : FVec F S_ .f32 := constant S_ .f32 0x7F800000#32
  let main_v74 : FVec F S64 .f32 := broadcastInDim S64 ![] bcast_S_S64 main_cst_22
  let main_v75 : IVec S64 1 := cmpf .olt main_v73 main_v74
  let main_c_23 : IVec S_ 1 := constantI S_ 1 1#1
  let main_v76 : IVec S_ 1 := (fun x v => Host.reduce IntOp.andi x v reducesTo_S64_S_d0 h_S_) main_v75 main_c_23
  let main_v77 : IVec S32x128 1 := broadcastInDim S32x128 ![] bcast_S_S32x128 main_v76
  let main_v78 : IVec S32x128 1 := andi main_v72 main_v77
  let main_v79 : FVec F S64x64 .f32 := Host.absf main_arg11
  let main_cst_24 : FVec F S_ .f32 := constant S_ .f32 0x7F800000#32
  let main_v80 : FVec F S64x64 .f32 := broadcastInDim S64x64 ![] bcast_S_S64x64 main_cst_24
  let main_v81 : IVec S64x64 1 := cmpf .olt main_v79 main_v80
  let main_c_25 : IVec S_ 1 := constantI S_ 1 1#1
  let main_v82 : IVec S_ 1 := (fun x v => Host.reduce IntOp.andi x v reducesTo_S64x64_S_d0_1 h_S_) main_v81 main_c_25
  let main_v83 : IVec S32x128 1 := broadcastInDim S32x128 ![] bcast_S_S32x128 main_v82
  let main_v84 : IVec S32x128 1 := andi main_v78 main_v83
  let main_v85 : FVec F S64 .f32 := Host.absf main_arg12
  let main_cst_26 : FVec F S_ .f32 := constant S_ .f32 0x7F800000#32
  let main_v86 : FVec F S64 .f32 := broadcastInDim S64 ![] bcast_S_S64 main_cst_26
  let main_v87 : IVec S64 1 := cmpf .olt main_v85 main_v86
  let main_c_27 : IVec S_ 1 := constantI S_ 1 1#1
  let main_v88 : IVec S_ 1 := (fun x v => Host.reduce IntOp.andi x v reducesTo_S64_S_d0 h_S_) main_v87 main_c_27
  let main_v89 : IVec S32x128 1 := broadcastInDim S32x128 ![] bcast_S_S32x128 main_v88
  fn_part5 (F := F) main_arg13 main_v84 main_v89

def fn_part3 {F : FTy → Type} [FloatOps F] (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_v48 : IVec S32x128 1) (main_v53 : IVec S32x128 1) : IVec S32x128 1 :=
  let main_v54 : IVec S32x128 1 := andi main_v48 main_v53
  let main_v55 : FVec F S64x64 .f32 := Host.absf main_arg7
  let main_cst_16 : FVec F S_ .f32 := constant S_ .f32 0x7F800000#32
  let main_v56 : FVec F S64x64 .f32 := broadcastInDim S64x64 ![] bcast_S_S64x64 main_cst_16
  let main_v57 : IVec S64x64 1 := cmpf .olt main_v55 main_v56
  let main_c_17 : IVec S_ 1 := constantI S_ 1 1#1
  let main_v58 : IVec S_ 1 := (fun x v => Host.reduce IntOp.andi x v reducesTo_S64x64_S_d0_1 h_S_) main_v57 main_c_17
  let main_v59 : IVec S32x128 1 := broadcastInDim S32x128 ![] bcast_S_S32x128 main_v58
  let main_v60 : IVec S32x128 1 := andi main_v54 main_v59
  let main_v61 : FVec F S64 .f32 := Host.absf main_arg8
  let main_cst_18 : FVec F S_ .f32 := constant S_ .f32 0x7F800000#32
  let main_v62 : FVec F S64 .f32 := broadcastInDim S64 ![] bcast_S_S64 main_cst_18
  let main_v63 : IVec S64 1 := cmpf .olt main_v61 main_v62
  let main_c_19 : IVec S_ 1 := constantI S_ 1 1#1
  let main_v64 : IVec S_ 1 := (fun x v => Host.reduce IntOp.andi x v reducesTo_S64_S_d0 h_S_) main_v63 main_c_19
  let main_v65 : IVec S32x128 1 := broadcastInDim S32x128 ![] bcast_S_S32x128 main_v64
  let main_v66 : IVec S32x128 1 := andi main_v60 main_v65
  let main_v67 : FVec F S64 .f32 := Host.absf main_arg9
  let main_cst_20 : FVec F S_ .f32 := constant S_ .f32 0x7F800000#32
  let main_v68 : FVec F S64 .f32 := broadcastInDim S64 ![] bcast_S_S64 main_cst_20
  let main_v69 : IVec S64 1 := cmpf .olt main_v67 main_v68
  let main_c_21 : IVec S_ 1 := constantI S_ 1 1#1
  let main_v70 : IVec S_ 1 := (fun x v => Host.reduce IntOp.andi x v reducesTo_S64_S_d0 h_S_) main_v69 main_c_21
  let main_v71 : IVec S32x128 1 := broadcastInDim S32x128 ![] bcast_S_S32x128 main_v70
  fn_part4 (F := F) main_arg10 main_arg11 main_arg12 main_arg13 main_v66 main_v71

def fn_part2 {F : FTy → Type} [FloatOps F] (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_v30 : IVec S32x128 1) (main_v35 : IVec S32x128 1) : IVec S32x128 1 :=
  let main_v36 : IVec S32x128 1 := andi main_v30 main_v35
  let main_v37 : FVec F S64 .f32 := Host.absf main_arg4
  let main_cst_10 : FVec F S_ .f32 := constant S_ .f32 0x7F800000#32
  let main_v38 : FVec F S64 .f32 := broadcastInDim S64 ![] bcast_S_S64 main_cst_10
  let main_v39 : IVec S64 1 := cmpf .olt main_v37 main_v38
  let main_c_11 : IVec S_ 1 := constantI S_ 1 1#1
  let main_v40 : IVec S_ 1 := (fun x v => Host.reduce IntOp.andi x v reducesTo_S64_S_d0 h_S_) main_v39 main_c_11
  let main_v41 : IVec S32x128 1 := broadcastInDim S32x128 ![] bcast_S_S32x128 main_v40
  let main_v42 : IVec S32x128 1 := andi main_v36 main_v41
  let main_v43 : FVec F S64 .f32 := Host.absf main_arg5
  let main_cst_12 : FVec F S_ .f32 := constant S_ .f32 0x7F800000#32
  let main_v44 : FVec F S64 .f32 := broadcastInDim S64 ![] bcast_S_S64 main_cst_12
  let main_v45 : IVec S64 1 := cmpf .olt main_v43 main_v44
  let main_c_13 : IVec S_ 1 := constantI S_ 1 1#1
  let main_v46 : IVec S_ 1 := (fun x v => Host.reduce IntOp.andi x v reducesTo_S64_S_d0 h_S_) main_v45 main_c_13
  let main_v47 : IVec S32x128 1 := broadcastInDim S32x128 ![] bcast_S_S32x128 main_v46
  let main_v48 : IVec S32x128 1 := andi main_v42 main_v47
  let main_v49 : FVec F S64 .f32 := Host.absf main_arg6
  let main_cst_14 : FVec F S_ .f32 := constant S_ .f32 0x7F800000#32
  let main_v50 : FVec F S64 .f32 := broadcastInDim S64 ![] bcast_S_S64 main_cst_14
  let main_v51 : IVec S64 1 := cmpf .olt main_v49 main_v50
  let main_c_15 : IVec S_ 1 := constantI S_ 1 1#1
  let main_v52 : IVec S_ 1 := (fun x v => Host.reduce IntOp.andi x v reducesTo_S64_S_d0 h_S_) main_v51 main_c_15
  let main_v53 : IVec S32x128 1 := broadcastInDim S32x128 ![] bcast_S_S32x128 main_v52
  fn_part3 (F := F) main_arg7 main_arg8 main_arg9 main_arg10 main_arg11 main_arg12 main_arg13 main_v48 main_v53

def fn_part1 {F : FTy → Type} [FloatOps F] (main_arg1 : FVec F S2 .f32) (main_arg2 : FVec F S2 .f32) (main_arg3 : FVec F S64x2 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_v12 : IVec S32x128 1) (main_v17 : IVec S32x128 1) : IVec S32x128 1 :=
  let main_v18 : IVec S32x128 1 := andi main_v12 main_v17
  let main_v19 : FVec F S2 .f32 := Host.absf main_arg1
  let main_cst_4 : FVec F S_ .f32 := constant S_ .f32 0x7F800000#32
  let main_v20 : FVec F S2 .f32 := broadcastInDim S2 ![] bcast_S_S2 main_cst_4
  let main_v21 : IVec S2 1 := cmpf .olt main_v19 main_v20
  let main_c_5 : IVec S_ 1 := constantI S_ 1 1#1
  let main_v22 : IVec S_ 1 := (fun x v => Host.reduce IntOp.andi x v reducesTo_S2_S_d0 h_S_) main_v21 main_c_5
  let main_v23 : IVec S32x128 1 := broadcastInDim S32x128 ![] bcast_S_S32x128 main_v22
  let main_v24 : IVec S32x128 1 := andi main_v18 main_v23
  let main_v25 : FVec F S2 .f32 := Host.absf main_arg2
  let main_cst_6 : FVec F S_ .f32 := constant S_ .f32 0x7F800000#32
  let main_v26 : FVec F S2 .f32 := broadcastInDim S2 ![] bcast_S_S2 main_cst_6
  let main_v27 : IVec S2 1 := cmpf .olt main_v25 main_v26
  let main_c_7 : IVec S_ 1 := constantI S_ 1 1#1
  let main_v28 : IVec S_ 1 := (fun x v => Host.reduce IntOp.andi x v reducesTo_S2_S_d0 h_S_) main_v27 main_c_7
  let main_v29 : IVec S32x128 1 := broadcastInDim S32x128 ![] bcast_S_S32x128 main_v28
  let main_v30 : IVec S32x128 1 := andi main_v24 main_v29
  let main_v31 : FVec F S64x2 .f32 := Host.absf main_arg3
  let main_cst_8 : FVec F S_ .f32 := constant S_ .f32 0x7F800000#32
  let main_v32 : FVec F S64x2 .f32 := broadcastInDim S64x2 ![] bcast_S_S64x2 main_cst_8
  let main_v33 : IVec S64x2 1 := cmpf .olt main_v31 main_v32
  let main_c_9 : IVec S_ 1 := constantI S_ 1 1#1
  let main_v34 : IVec S_ 1 := (fun x v => Host.reduce IntOp.andi x v reducesTo_S64x2_S_d0_1 h_S_) main_v33 main_c_9
  let main_v35 : IVec S32x128 1 := broadcastInDim S32x128 ![] bcast_S_S32x128 main_v34
  fn_part2 (F := F) main_arg4 main_arg5 main_arg6 main_arg7 main_arg8 main_arg9 main_arg10 main_arg11 main_arg12 main_arg13 main_v30 main_v35

def fn {F : FTy → Type} [FloatOps F] (main_arg0 : FVec F S32x4x128 .f32) (main_arg1 : FVec F S2 .f32) (main_arg2 : FVec F S2 .f32) (main_arg3 : FVec F S64x2 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) : IVec S32x128 1 :=
  let main_v0 : FVec F S32x1x128 .f32 := (extractStridedSlice S32x1x128 ![0, 2, 0] · slices_S32x4x128_S32x1x128_0_2_0) main_arg0
  let main_v1 : FVec F S32x128 .f32 := shapeCast S32x128 main_v0 shapeCasts_S32x1x128_S32x128
  let main_v2 : FVec F S32x1x128 .f32 := (extractStridedSlice S32x1x128 ![0, 3, 0] · slices_S32x4x128_S32x1x128_0_3_0) main_arg0
  let main_v3 : FVec F S32x128 .f32 := shapeCast S32x128 main_v2 shapeCasts_S32x1x128_S32x128
  let main_cst : FVec F S_ .f32 := constant S_ .f32 0x40000000#32
  let main_v4 : FVec F S32x128 .f32 := broadcastInDim S32x128 ![] bcast_S_S32x128 main_cst
  let main_v5 : FVec F S32x128 .f32 := mulf main_v4 main_v1
  let main_v6 : FVec F S32x128 .f32 := subf main_v3 main_v1
  let main_cst_0 : FVec F S_ .f32 := constant S_ .f32 0x1E3CE508#32
  let main_v7 : FVec F S32x128 .f32 := fn_clip (F := F) main_v6 main_cst_0
  let main_v8 : FVec F S32x128 .f32 := Host.divf main_v5 main_v7
  let main_cst_1 : FVec F S_ .f32 := constant S_ .f32 0x3F800000#32
  let main_v9 : FVec F S32x128 .f32 := broadcastInDim S32x128 ![] bcast_S_S32x128 main_cst_1
  let main_v10 : FVec F S32x128 .f32 := addf main_v9 main_v8
  let main_cst_2 : FVec F S_ .f32 := constant S_ .f32 0x00000000#32
  let main_v11 : FVec F S32x128 .f32 := broadcastInDim S32x128 ![] bcast_S_S32x128 main_cst_2
  let main_v12 : IVec S32x128 1 := cmpf .ogt main_v10 main_v11
  let main_v13 : FVec F S32x4x128 .f32 := Host.absf main_arg0
  let main_cst_3 : FVec F S_ .f32 := constant S_ .f32 0x7F800000#32
  let main_v14 : FVec F S32x4x128 .f32 := broadcastInDim S32x4x128 ![] bcast_S_S32x4x128 main_cst_3
  let main_v15 : IVec S32x4x128 1 := cmpf .olt main_v13 main_v14
  let main_c : IVec S_ 1 := constantI S_ 1 1#1
  let main_v16 : IVec S_ 1 := (fun x v => Host.reduce IntOp.andi x v reducesTo_S32x4x128_S_d0_1_2 h_S_) main_v15 main_c
  let main_v17 : IVec S32x128 1 := broadcastInDim S32x128 ![] bcast_S_S32x128 main_v16
  fn_part1 (F := F) main_arg1 main_arg2 main_arg3 main_arg4 main_arg5 main_arg6 main_arg7 main_arg8 main_arg9 main_arg10 main_arg11 main_arg12 main_arg13 main_v12 main_v17
-- ==== Kernel.lean ====
abbrev S32x4x128 : Shape := ⟨3, ![32, 4, 128]⟩
abbrev S2 : Shape := ⟨1, ![2]⟩
abbrev S64x2 : Shape := ⟨2, ![64, 2]⟩
abbrev S64 : Shape := ⟨1, ![64]⟩
abbrev S64x64 : Shape := ⟨2, ![64, 64]⟩
abbrev S32x128x4 : Shape := ⟨3, ![32, 128, 4]⟩
abbrev S32x2x128 : Shape := ⟨3, ![32, 2, 128]⟩
abbrev S_ : Shape := ⟨0, ![]⟩
abbrev S1x2 : Shape := ⟨2, ![1, 2]⟩
abbrev S64x1 : Shape := ⟨2, ![64, 1]⟩
abbrev S32x64x128x128 : Shape := ⟨4, ![32, 64, 128, 128]⟩
abbrev S32x64x128 : Shape := ⟨3, ![32, 64, 128]⟩
abbrev S1x4x128 : Shape := ⟨3, ![1, 4, 128]⟩
abbrev S1x128x4 : Shape := ⟨3, ![1, 128, 4]⟩
abbrev S4x128 : Shape := ⟨2, ![4, 128]⟩
abbrev S128x4 : Shape := ⟨2, ![128, 4]⟩
abbrev S1x128 : Shape := ⟨2, ![1, 128]⟩
abbrev S128x1 : Shape := ⟨2, ![128, 1]⟩
abbrev S128x128 : Shape := ⟨2, ![128, 128]⟩
abbrev S128 : Shape := ⟨1, ![128]⟩
abbrev S1x1x128 : Shape := ⟨3, ![1, 1, 128]⟩
abbrev S1x64x128x128 : Shape := ⟨4, ![1, 64, 128, 128]⟩
abbrev S1x64x128 : Shape := ⟨3, ![1, 64, 128]⟩
abbrev S64x1x1 : Shape := ⟨3, ![64, 1, 1]⟩
abbrev S1x128x128 : Shape := ⟨3, ![1, 128, 128]⟩
abbrev S64x128x128 : Shape := ⟨3, ![64, 128, 128]⟩
abbrev S64x128 : Shape := ⟨2, ![64, 128]⟩
abbrev S64x16384 : Shape := ⟨2, ![64, 16384]⟩

abbrev nBuf : Space → Nat
  | .hbm => 119
  | .vmem => 48
  | .smem => 0
  | _ => 0

abbrev bufTy : (tb : Table) → Fin (tcTables nBuf tb) → BufTy
  | .hbm, ⟨0, _⟩ => ⟨S32x4x128, .f32⟩
  | .hbm, ⟨1, _⟩ => ⟨S2, .f32⟩
  | .hbm, ⟨2, _⟩ => ⟨S2, .f32⟩
  | .hbm, ⟨3, _⟩ => ⟨S64x2, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S32x128x4, .f32⟩
  | .hbm, ⟨16, _⟩ => ⟨S32x4x128, .f32⟩
  | .hbm, ⟨17, _⟩ => ⟨S32x2x128, .f32⟩
  | .hbm, ⟨18, _⟩ => ⟨S_, .f32⟩
  | .hbm, ⟨19, _⟩ => ⟨S2, .f32⟩
  | .hbm, ⟨20, _⟩ => ⟨S32x2x128, .f32⟩
  | .hbm, ⟨21, _⟩ => ⟨S_, .f32⟩
  | .hbm, ⟨22, _⟩ => ⟨S2, .f32⟩
  | .hbm, ⟨23, _⟩ => ⟨S_, .f32⟩
  | .hbm, ⟨24, _⟩ => ⟨S2, .f32⟩
  | .hbm, ⟨25, _⟩ => ⟨S2, .f32⟩
  | .hbm, ⟨26, _⟩ => ⟨S_, .f32⟩
  | .hbm, ⟨27, _⟩ => ⟨S2, .f32⟩
  | .hbm, ⟨28, _⟩ => ⟨S2, .f32⟩
  | .hbm, ⟨29, _⟩ => ⟨S2, .f32⟩
  | .hbm, ⟨30, _⟩ => ⟨S2, .f32⟩
  | .hbm, ⟨31, _⟩ => ⟨S_, .f32⟩
  | .hbm, ⟨32, _⟩ => ⟨S2, .f32⟩
  | .hbm, ⟨33, _⟩ => ⟨S2, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S2, .f32⟩
  | .hbm, ⟨38, _⟩ => ⟨S1x2, .f32⟩
  | .hbm, ⟨39, _⟩ => ⟨S64x2, .f32⟩
  | .hbm, ⟨40, _⟩ => ⟨S64x2, .f32⟩
  | .hbm, ⟨41, _⟩ => ⟨S64, .f32⟩
  | .hbm, ⟨42, _⟩ => ⟨S64, .f32⟩
  | .hbm, ⟨43, _⟩ => ⟨S64x1, .f32⟩
  | .hbm, ⟨44, _⟩ => ⟨S32x64x128x128, .f32⟩
  | .hbm, ⟨45, _⟩ => ⟨S32x64x128, .f32⟩
  | .hbm, ⟨46, _⟩ => ⟨S32x64x128, .f32⟩
  | .hbm, ⟨47, _⟩ => ⟨S_, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64x1, .f32⟩
  | .hbm, ⟨67, _⟩ => ⟨S64x1, .f32⟩
  | .hbm, ⟨68, _⟩ => ⟨S64x1, .f32⟩
  | .hbm, ⟨69, _⟩ => ⟨S32x64x128x128, .f32⟩
  | .hbm, ⟨70, _⟩ => ⟨S32x64x128, .f32⟩
  | .hbm, ⟨71, _⟩ => ⟨S32x64x128, .f32⟩
  | .hbm, ⟨72, _⟩ => ⟨S_, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S64, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S64, .f32⟩
  | .hbm, ⟨88, _⟩ => ⟨S64, .f32⟩
  | .hbm, ⟨89, _⟩ => ⟨S64, .f32⟩
  | .hbm, ⟨90, _⟩ => ⟨S64, .f32⟩
  | .hbm, ⟨91, _⟩ => ⟨S64x1, .f32⟩
  | .hbm, ⟨92, _⟩ => ⟨S64x1, .f32⟩
  | .hbm, ⟨93, _⟩ => ⟨S64x1, .f32⟩
  | .hbm, ⟨94, _⟩ => ⟨S32x64x128x128, .f32⟩
  | .hbm, ⟨95, _⟩ => ⟨S32x64x128, .f32⟩
  | .hbm, ⟨96, _⟩ => ⟨S32x64x128, .f32⟩
  | .hbm, ⟨97, _⟩ => ⟨S_, .f32⟩
  | .hbm, ⟨98, _⟩ => ⟨S64, .f32⟩
  | .hbm, ⟨99, _⟩ => ⟨S_, .f32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S_, .f32⟩
  | .hbm, ⟨105, _⟩ => ⟨S64, .f32⟩
  | .hbm, ⟨106, _⟩ => ⟨S64, .f32⟩
  | .hbm, ⟨107, _⟩ => ⟨S64, .f32⟩
  | .hbm, ⟨108, _⟩ => ⟨S64, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64, .f32⟩
  | .hbm, ⟨113, _⟩ => ⟨S64, .f32⟩
  | .hbm, ⟨114, _⟩ => ⟨S64, .f32⟩
  | .hbm, ⟨115, _⟩ => ⟨S64, .f32⟩
  | .hbm, ⟨116, _⟩ => ⟨S64x1, .f32⟩
  | .hbm, ⟨117, _⟩ => ⟨S64x1, .f32⟩
  | .hbm, ⟨118, _⟩ => ⟨S32x64x128x128, .f32⟩
  | .local _ .vmem, ⟨0, _⟩ => ⟨S1x4x128, .f32⟩
  | .local _ .vmem, ⟨1, _⟩ => ⟨S1x4x128, .f32⟩
  | .local _ .vmem, ⟨2, _⟩ => ⟨S1x128x4, .f32⟩
  | .local _ .vmem, ⟨3, _⟩ => ⟨S1x128x4, .f32⟩
  | .local _ .vmem, ⟨4, _⟩ => ⟨S1x4x128, .f32⟩
  | .local _ .vmem, ⟨5, _⟩ => ⟨S1x4x128, .f32⟩
  | .local _ .vmem, ⟨6, _⟩ => ⟨S1x4x128, .f32⟩
  | .local _ .vmem, ⟨7, _⟩ => ⟨S1x4x128, .f32⟩
  | .local _ .vmem, ⟨8, _⟩ => ⟨S1x128x4, .f32⟩
  | .local _ .vmem, ⟨9, _⟩ => ⟨S1x128x4, .f32⟩
  | .local _ .vmem, ⟨10, _⟩ => ⟨S64x2, .f32⟩
  | .local _ .vmem, ⟨11, _⟩ => ⟨S64x1, .f32⟩
  | .local _ .vmem, ⟨12, _⟩ => ⟨S1x64x128x128, .f32⟩
  | .local _ .vmem, ⟨13, _⟩ => ⟨S1x64x128x128, .f32⟩
  | .local _ .vmem, ⟨14, _⟩ => ⟨S1x64x128, .f32⟩
  | .local _ .vmem, ⟨15, _⟩ => ⟨S1x64x128, .f32⟩
  | .local _ .vmem, ⟨16, _⟩ => ⟨S1x64x128, .f32⟩
  | .local _ .vmem, ⟨17, _⟩ => ⟨S1x64x128, .f32⟩
  | .local _ .vmem, ⟨18, _⟩ => ⟨S1x64x128x128, .f32⟩
  | .local _ .vmem, ⟨19, _⟩ => ⟨S1x64x128x128, .f32⟩
  | .local _ .vmem, ⟨20, _⟩ => ⟨S64x1, .f32⟩
  | .local _ .vmem, ⟨21, _⟩ => ⟨S64x1, .f32⟩
  | .local _ .vmem, ⟨22, _⟩ => ⟨S64x64, .f32⟩
  | .local _ .vmem, ⟨23, _⟩ => ⟨S64x1, .f32⟩
  | .local _ .vmem, ⟨24, _⟩ => ⟨S1x64x128x128, .f32⟩
  | .local _ .vmem, ⟨25, _⟩ => ⟨S1x64x128x128, .f32⟩
  | .local _ .vmem, ⟨26, _⟩ => ⟨S1x64x128, .f32⟩
  | .local _ .vmem, ⟨27, _⟩ => ⟨S1x64x128, .f32⟩
  | .local _ .vmem, ⟨28, _⟩ => ⟨S1x64x128, .f32⟩
  | .local _ .vmem, ⟨29, _⟩ => ⟨S1x64x128, .f32⟩
  | .local _ .vmem, ⟨30, _⟩ => ⟨S1x64x128x128, .f32⟩
  | .local _ .vmem, ⟨31, _⟩ => ⟨S1x64x128x128, .f32⟩
  | .local _ .vmem, ⟨32, _⟩ => ⟨S64x1, .f32⟩
  | .local _ .vmem, ⟨33, _⟩ => ⟨S64x1, .f32⟩
  | .local _ .vmem, ⟨34, _⟩ => ⟨S64x64, .f32⟩
  | .local _ .vmem, ⟨35, _⟩ => ⟨S64x1, .f32⟩
  | .local _ .vmem, ⟨36, _⟩ => ⟨S1x64x128x128, .f32⟩
  | .local _ .vmem, ⟨37, _⟩ => ⟨S1x64x128x128, .f32⟩
  | .local _ .vmem, ⟨38, _⟩ => ⟨S1x64x128, .f32⟩
  | .local _ .vmem, ⟨39, _⟩ => ⟨S1x64x128, .f32⟩
  | .local _ .vmem, ⟨40, _⟩ => ⟨S1x64x128, .f32⟩
  | .local _ .vmem, ⟨41, _⟩ => ⟨S1x64x128, .f32⟩
  | .local _ .vmem, ⟨42, _⟩ => ⟨S1x64x128x128, .f32⟩
  | .local _ .vmem, ⟨43, _⟩ => ⟨S1x64x128x128, .f32⟩
  | .local _ .vmem, ⟨44, _⟩ => ⟨S64x1, .f32⟩
  | .local _ .vmem, ⟨45, _⟩ => ⟨S64x1, .f32⟩
  | .local _ .vmem, ⟨46, _⟩ => ⟨S1x64x128x128, .f32⟩
  | .local _ .vmem, ⟨47, _⟩ => ⟨S1x64x128x128, .f32⟩
  | _, _ => ⟨S32x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_call0_cst_2 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_cst_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_v23 : Ref sig .tc := ⟨.hbm, 43, rfl⟩
abbrev main_call0_v24_0 : Ref sig .tc := ⟨.hbm, 44, rfl⟩
abbrev main_call0_v24_1 : Ref sig .tc := ⟨.hbm, 45, rfl⟩
abbrev main_call0_v24_2 : Ref sig .tc := ⟨.hbm, 46, rfl⟩
abbrev main_call0_cst_4 : Ref sig .tc := ⟨.hbm, 47, rfl⟩
abbrev main_call0_v25 : Ref sig .tc := ⟨.hbm, 48, rfl⟩
abbrev main_call0_cst_5 : Ref sig .tc := ⟨.hbm, 49, rfl⟩
abbrev main_call0_v26 : Ref sig .tc := ⟨.hbm, 50, rfl⟩
abbrev main_call0_cst_6 : Ref sig .tc := ⟨.hbm, 51, rfl⟩
abbrev main_call0_v27 : Ref sig .tc := ⟨.hbm, 52, rfl⟩
abbrev main_call0_v28 : Ref sig .tc := ⟨.hbm, 53, rfl⟩
abbrev main_call0_cst_7 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_v32 : Ref sig .tc := ⟨.hbm, 58, rfl⟩
abbrev main_call0_cst_8 : Ref sig .tc := ⟨.hbm, 59, rfl⟩
abbrev main_call0_v33 : Ref sig .tc := ⟨.hbm, 60, rfl⟩
abbrev main_call0_v34 : Ref sig .tc := ⟨.hbm, 61, rfl⟩
abbrev main_call0_v35 : Ref sig .tc := ⟨.hbm, 62, rfl⟩
abbrev main_call0_v36 : Ref sig .tc := ⟨.hbm, 63, rfl⟩
abbrev main_call0_v37 : Ref sig .tc := ⟨.hbm, 64, rfl⟩
abbrev main_call0_v38 : Ref sig .tc := ⟨.hbm, 65, rfl⟩
abbrev main_call0_v39 : Ref sig .tc := ⟨.hbm, 66, rfl⟩
abbrev main_call0_v40 : Ref sig .tc := ⟨.hbm, 67, rfl⟩
abbrev main_call0_v41 : Ref sig .tc := ⟨.hbm, 68, rfl⟩
abbrev main_call0_v42_0 : Ref sig .tc := ⟨.hbm, 69, rfl⟩
abbrev main_call0_v42_1 : Ref sig .tc := ⟨.hbm, 70, rfl⟩
abbrev main_call0_v42_2 : Ref sig .tc := ⟨.hbm, 71, rfl⟩
abbrev main_call0_cst_9 : Ref sig .tc := ⟨.hbm, 72, rfl⟩
abbrev main_call0_v43 : Ref sig .tc := ⟨.hbm, 73, rfl⟩
abbrev main_call0_cst_10 : Ref sig .tc := ⟨.hbm, 74, rfl⟩
abbrev main_call0_v44 : Ref sig .tc := ⟨.hbm, 75, rfl⟩
abbrev main_call0_cst_11 : Ref sig .tc := ⟨.hbm, 76, rfl⟩
abbrev main_call0_v45 : Ref sig .tc := ⟨.hbm, 77, rfl⟩
abbrev main_call0_v46 : Ref sig .tc := ⟨.hbm, 78, rfl⟩
abbrev main_call0_cst_12 : Ref sig .tc := ⟨.hbm, 79, rfl⟩
abbrev main_call0_v47 : Ref sig .tc := ⟨.hbm, 80, rfl⟩
abbrev main_call0_v48 : Ref sig .tc := ⟨.hbm, 81, rfl⟩
abbrev main_call0_v49 : Ref sig .tc := ⟨.hbm, 82, rfl⟩
abbrev main_call0_v50 : Ref sig .tc := ⟨.hbm, 83, rfl⟩
abbrev main_call0_cst_13 : Ref sig .tc := ⟨.hbm, 84, rfl⟩
abbrev main_call0_v51 : Ref sig .tc := ⟨.hbm, 85, rfl⟩
abbrev main_call0_v52 : Ref sig .tc := ⟨.hbm, 86, rfl⟩
abbrev main_call0_v53 : Ref sig .tc := ⟨.hbm, 87, rfl⟩
abbrev main_call0_v54 : Ref sig .tc := ⟨.hbm, 88, rfl⟩
abbrev main_call0_v55 : Ref sig .tc := ⟨.hbm, 89, rfl⟩
abbrev main_call0_v56 : Ref sig .tc := ⟨.hbm, 90, rfl⟩
abbrev main_call0_v57 : Ref sig .tc := ⟨.hbm, 91, rfl⟩
abbrev main_call0_v58 : Ref sig .tc := ⟨.hbm, 92, rfl⟩
abbrev main_call0_v59 : Ref sig .tc := ⟨.hbm, 93, rfl⟩
abbrev main_call0_v60_0 : Ref sig .tc := ⟨.hbm, 94, rfl⟩
abbrev main_call0_v60_1 : Ref sig .tc := ⟨.hbm, 95, rfl⟩
abbrev main_call0_v60_2 : Ref sig .tc := ⟨.hbm, 96, rfl⟩
abbrev main_call0_cst_14 : Ref sig .tc := ⟨.hbm, 97, rfl⟩
abbrev main_call0_v61 : Ref sig .tc := ⟨.hbm, 98, rfl⟩
abbrev main_call0_cst_15 : Ref sig .tc := ⟨.hbm, 99, rfl⟩
abbrev main_call0_v62 : Ref sig .tc := ⟨.hbm, 100, rfl⟩
abbrev main_call0_cst_16 : Ref sig .tc := ⟨.hbm, 101, rfl⟩
abbrev main_call0_v63 : Ref sig .tc := ⟨.hbm, 102, rfl⟩
abbrev main_call0_v64 : Ref sig .tc := ⟨.hbm, 103, rfl⟩
abbrev main_call0_cst_17 : Ref sig .tc := ⟨.hbm, 104, rfl⟩
abbrev main_call0_v65 : Ref sig .tc := ⟨.hbm, 105, rfl⟩
abbrev main_call0_v66 : Ref sig .tc := ⟨.hbm, 106, rfl⟩
abbrev main_call0_v67 : Ref sig .tc := ⟨.hbm, 107, rfl⟩
abbrev main_call0_v68 : Ref sig .tc := ⟨.hbm, 108, rfl⟩
abbrev main_call0_cst_18 : Ref sig .tc := ⟨.hbm, 109, rfl⟩
abbrev main_call0_v69 : Ref sig .tc := ⟨.hbm, 110, rfl⟩
abbrev main_call0_v70 : Ref sig .tc := ⟨.hbm, 111, rfl⟩
abbrev main_call0_v71 : Ref sig .tc := ⟨.hbm, 112, rfl⟩
abbrev main_call0_v72 : Ref sig .tc := ⟨.hbm, 113, rfl⟩
abbrev main_call0_v73 : Ref sig .tc := ⟨.hbm, 114, rfl⟩
abbrev main_call0_v74 : Ref sig .tc := ⟨.hbm, 115, rfl⟩
abbrev main_call0_v75 : Ref sig .tc := ⟨.hbm, 116, rfl⟩
abbrev main_call0_v76 : Ref sig .tc := ⟨.hbm, 117, rfl⟩
abbrev main_v0 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg3_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc3_sem6_0 : DmaSem sig := 38
abbrev cc3_sem6_1 : DmaSem sig := 39
abbrev cc3_sem7_0 : DmaSem sig := 40
abbrev cc3_sem7_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem3_1 : DmaSem sig := 47

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x64x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x64x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x64x128x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x64x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x64x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![32], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x64x128x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x64x128x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x64x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x64x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![32], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S1x64x128x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x64x128x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== ReferenceIdeal.lean ====
abbrev S32x4x128 : Shape := ⟨3, ![32, 4, 128]⟩
abbrev S2 : Shape := ⟨1, ![2]⟩
abbrev S64x2 : Shape := ⟨2, ![64, 2]⟩
abbrev S64 : Shape := ⟨1, ![64]⟩
abbrev S64x64 : Shape := ⟨2, ![64, 64]⟩
abbrev S8256 : Shape := ⟨1, ![8256]⟩
abbrev S_ : Shape := ⟨0, ![]⟩
abbrev S8256x1 : Shape := ⟨2, ![8256, 1]⟩
abbrev S32x4x8256 : Shape := ⟨3, ![32, 4, 8256]⟩
abbrev S32x1x8256 : Shape := ⟨3, ![32, 1, 8256]⟩
abbrev S32x8256 : Shape := ⟨2, ![32, 8256]⟩
abbrev S32x2x8256 : Shape := ⟨3, ![32, 2, 8256]⟩
abbrev S1x2x1 : Shape := ⟨3, ![1, 2, 1]⟩
abbrev S32x8256x64 : Shape := ⟨3, ![32, 8256, 64]⟩
abbrev S32x64x8256 : Shape := ⟨3, ![32, 64, 8256]⟩
abbrev S1x64x1 : Shape := ⟨3, ![1, 64, 1]⟩
abbrev S32x64x128x128 : Shape := ⟨4, ![32, 64, 128, 128]⟩
abbrev S8256x2 : Shape := ⟨2, ![8256, 2]⟩

abbrev nBuf : Space → Nat
  | .hbm => 390
  | .vmem => 0
  | .smem => 0
  | _ => 0

abbrev hbmTy0_0 (i : Nat) : BufTy := match i % 128 with
  | 0 => ⟨S32x4x128, .f32⟩
  | 1 => ⟨S2, .f32⟩
  | 2 => ⟨S2, .f32⟩
  | 3 => ⟨S64x2, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S8256, .i32⟩
  | 16 => ⟨S8256, .i32⟩
  | 17 => ⟨S_, .i32⟩
  | 18 => ⟨S8256, .i32⟩
  | 19 => ⟨S8256, .i1⟩
  | 20 => ⟨S_, .i32⟩
  | 21 => ⟨S8256, .i32⟩
  | 22 => ⟨S8256, .i32⟩
  | 23 => ⟨S8256, .i32⟩
  | 24 => ⟨S8256x1, .i32⟩
  | 25 => ⟨S32x4x8256, .f32⟩
  | 26 => ⟨S_, .i32⟩
  | 27 => ⟨S8256, .i32⟩
  | 28 => ⟨S8256, .i1⟩
  | 29 => ⟨S_, .i32⟩
  | 30 => ⟨S8256, .i32⟩
  | 31 => ⟨S8256, .i32⟩
  | 32 => ⟨S8256, .i32⟩
  | 33 => ⟨S8256x1, .i32⟩
  | 34 => ⟨S32x4x8256, .f32⟩
  | 35 => ⟨S32x1x8256, .f32⟩
  | 36 => ⟨S32x8256, .f32⟩
  | 37 => ⟨S32x1x8256, .f32⟩
  | 38 => ⟨S32x8256, .f32⟩
  | 39 => ⟨S32x1x8256, .f32⟩
  | 40 => ⟨S32x8256, .f32⟩
  | 41 => ⟨S32x1x8256, .f32⟩
  | 42 => ⟨S32x8256, .f32⟩
  | 43 => ⟨S32x8256, .f32⟩
  | 44 => ⟨S32x8256, .f32⟩
  | 45 => ⟨S32x8256, .f32⟩
  | 46 => ⟨S32x8256, .f32⟩
  | 47 => ⟨S_, .f32⟩
  | 48 => ⟨S32x8256, .f32⟩
  | 49 => ⟨S32x8256, .f32⟩
  | 50 => ⟨S32x8256, .f32⟩
  | 51 => ⟨S_, .f32⟩
  | 52 => ⟨S_, .f32⟩
  | 53 => ⟨S32x8256, .f32⟩
  | 54 => ⟨S32x8256, .f32⟩
  | 55 => ⟨S32x8256, .f32⟩
  | 56 => ⟨S_, .f32⟩
  | 57 => ⟨S32x8256, .f32⟩
  | 58 => ⟨S32x8256, .f32⟩
  | 59 => ⟨S32x8256, .f32⟩
  | 60 => ⟨S_, .f32⟩
  | 61 => ⟨S32x8256, .f32⟩
  | 62 => ⟨S32x8256, .f32⟩
  | 63 => ⟨S32x8256, .f32⟩
  | 64 => ⟨S32x1x8256, .f32⟩
  | 65 => ⟨S32x8256, .f32⟩
  | 66 => ⟨S32x1x8256, .f32⟩
  | 67 => ⟨S32x8256, .f32⟩
  | 68 => ⟨S32x1x8256, .f32⟩
  | 69 => ⟨S32x8256, .f32⟩
  | 70 => ⟨S32x1x8256, .f32⟩
  | 71 => ⟨S32x8256, .f32⟩
  | 72 => ⟨S32x8256, .f32⟩
  | 73 => ⟨S32x8256, .f32⟩
  | 74 => ⟨S32x8256, .f32⟩
  | 75 => ⟨S32x8256, .f32⟩
  | 76 => ⟨S_, .f32⟩
  | 77 => ⟨S32x8256, .f32⟩
  | 78 => ⟨S32x8256, .f32⟩
  | 79 => ⟨S32x8256, .f32⟩
  | 80 => ⟨S_, .f32⟩
  | 81 => ⟨S_, .f32⟩
  | 82 => ⟨S32x8256, .f32⟩
  | 83 => ⟨S32x8256, .f32⟩
  | 84 => ⟨S32x8256, .f32⟩
  | 85 => ⟨S_, .f32⟩
  | 86 => ⟨S32x8256, .f32⟩
  | 87 => ⟨S32x8256, .f32⟩
  | 88 => ⟨S32x8256, .f32⟩
  | 89 => ⟨S_, .f32⟩
  | 90 => ⟨S32x8256, .f32⟩
  | 91 => ⟨S32x8256, .f32⟩
  | 92 => ⟨S32x8256, .f32⟩
  | 93 => ⟨S32x8256, .f32⟩
  | 94 => ⟨S_, .f32⟩
  | 95 => ⟨S32x8256, .f32⟩
  | 96 => ⟨S32x8256, .f32⟩
  | 97 => ⟨S_, .f32⟩
  | 98 => ⟨S_, .f32⟩
  | 99 => ⟨S32x8256, .f32⟩
  | 100 => ⟨S32x8256, .f32⟩
  | 101 => ⟨S_, .f32⟩
  | 102 => ⟨S32x8256, .f32⟩
  | 103 => ⟨S32x8256, .i1⟩
  | 104 => ⟨S_, .f32⟩
  | 105 => ⟨S32x8256, .f32⟩
  | 106 => ⟨S32x8256, .i1⟩
  | 107 => ⟨S_, .f32⟩
  | 108 => ⟨S_, .i1⟩
  | 109 => ⟨S32x8256, .i1⟩
  | 110 => ⟨S32x8256, .i1⟩
  | 111 => ⟨S32x8256, .i1⟩
  | 112 => ⟨S32x8256, .f32⟩
  | 113 => ⟨S32x8256, .f32⟩
  | 114 => ⟨S32x8256, .f32⟩
  | 115 => ⟨S_, .f32⟩
  | 116 => ⟨S32x8256, .f32⟩
  | 117 => ⟨S32x8256, .f32⟩
  | 118 => ⟨S32x8256, .f32⟩
  | 119 => ⟨S32x8256, .f32⟩
  | 120 => ⟨S32x8256, .f32⟩
  | 121 => ⟨S32x8256, .f32⟩
  | 122 => ⟨S32x8256, .f32⟩
  | 123 => ⟨S_, .f32⟩
  | 124 => ⟨S_, .f32⟩
  | 125 => ⟨S32x8256, .f32⟩
  | 126 => ⟨S32x8256, .f32⟩
  | 127 => ⟨S32x8256, .f32⟩
  | _ => ⟨S32x4x128, .f32⟩

abbrev hbmTy0_1 (i : Nat) : BufTy := match i % 128 with
  | 0 => ⟨S32x4x8256, .f32⟩
  | 1 => ⟨S32x1x8256, .f32⟩
  | 2 => ⟨S32x8256, .f32⟩
  | 3 => ⟨S32x8256, .f32⟩
  | 4 => ⟨S32x1x8256, .f32⟩
  | 5 => ⟨S32x8256, .f32⟩
  | 6 => ⟨S32x8256, .f32⟩
  | 7 => ⟨S32x1x8256, .f32⟩
  | 8 => ⟨S32x8256, .f32⟩
  | 9 => ⟨S32x8256, .f32⟩
  | 10 => ⟨S32x8256, .f32⟩
  | 11 => ⟨S32x1x8256, .f32⟩
  | 12 => ⟨S32x8256, .f32⟩
  | 13 => ⟨S32x8256, .f32⟩
  | 14 => ⟨S32x8256, .f32⟩
  | 15 => ⟨S32x8256, .f32⟩
  | 16 => ⟨S_, .f32⟩
  | 17 => ⟨S_, .f32⟩
  | 18 => ⟨S32x8256, .f32⟩
  | 19 => ⟨S32x8256, .f32⟩
  | 20 => ⟨S32x8256, .f32⟩
  | 21 => ⟨S32x1x8256, .f32⟩
  | 22 => ⟨S32x1x8256, .f32⟩
  | 23 => ⟨S32x2x8256, .f32⟩
  | 24 => ⟨S_, .f32⟩
  | 25 => ⟨S2, .f32⟩
  | 26 => ⟨S1x2x1, .f32⟩
  | 27 => ⟨S_, .f32⟩
  | 28 => ⟨S1x2x1, .f32⟩
  | 29 => ⟨S1x2x1, .f32⟩
  | 30 => ⟨S_, .i32⟩
  | 31 => ⟨S_, .f32⟩
  | 32 => ⟨S2, .f32⟩
  | 33 => ⟨S1x2x1, .f32⟩
  | 34 => ⟨S_, .f32⟩
  | 35 => ⟨S1x2x1, .f32⟩
  | 36 => ⟨S1x2x1, .f32⟩
  | 37 => ⟨S32x2x8256, .f32⟩
  | 38 => ⟨S32x2x8256, .f32⟩
  | 39 => ⟨S32x2x8256, .f32⟩
  | 40 => ⟨S_, .f32⟩
  | 41 => ⟨S_, .f32⟩
  | 42 => ⟨S_, .f32⟩
  | 43 => ⟨S_, .f32⟩
  | 44 => ⟨S2, .f32⟩
  | 45 => ⟨S1x2x1, .f32⟩
  | 46 => ⟨S1x2x1, .f32⟩
  | 47 => ⟨S1x2x1, .f32⟩
  | 48 => ⟨S_, .f32⟩
  | 49 => ⟨S_, .i1⟩
  | 50 => ⟨S_, .f32⟩
  | 51 => ⟨S_, .f32⟩
  | 52 => ⟨S1x2x1, .f32⟩
  | 53 => ⟨S1x2x1, .f32⟩
  | 54 => ⟨S32x2x8256, .f32⟩
  | 55 => ⟨S32x2x8256, .f32⟩
  | 56 => ⟨S_, .f32⟩
  | 57 => ⟨S1x2x1, .f32⟩
  | 58 => ⟨S1x2x1, .f32⟩
  | 59 => ⟨S1x2x1, .f32⟩
  | 60 => ⟨S32x2x8256, .f32⟩
  | 61 => ⟨S32x2x8256, .f32⟩
  | 62 => ⟨S1x2x1, .f32⟩
  | 63 => ⟨S32x2x8256, .f32⟩
  | 64 => ⟨S32x2x8256, .f32⟩
  | 65 => ⟨S1x2x1, .f32⟩
  | 66 => ⟨S32x2x8256, .f32⟩
  | 67 => ⟨S32x2x8256, .f32⟩
  | 68 => ⟨S32x8256x64, .f32⟩
  | 69 => ⟨S32x64x8256, .f32⟩
  | 70 => ⟨S1x64x1, .f32⟩
  | 71 => ⟨S32x64x8256, .f32⟩
  | 72 => ⟨S32x64x8256, .f32⟩
  | 73 => ⟨S_, .f32⟩
  | 74 => ⟨S64, .f32⟩
  | 75 => ⟨S1x64x1, .f32⟩
  | 76 => ⟨S_, .f32⟩
  | 77 => ⟨S1x64x1, .f32⟩
  | 78 => ⟨S1x64x1, .f32⟩
  | 79 => ⟨S_, .i32⟩
  | 80 => ⟨S_, .f32⟩
  | 81 => ⟨S64, .f32⟩
  | 82 => ⟨S1x64x1, .f32⟩
  | 83 => ⟨S_, .f32⟩
  | 84 => ⟨S1x64x1, .f32⟩
  | 85 => ⟨S1x64x1, .f32⟩
  | 86 => ⟨S32x64x8256, .f32⟩
  | 87 => ⟨S32x64x8256, .f32⟩
  | 88 => ⟨S32x64x8256, .f32⟩
  | 89 => ⟨S_, .f32⟩
  | 90 => ⟨S_, .f32⟩
  | 91 => ⟨S_, .f32⟩
  | 92 => ⟨S_, .f32⟩
  | 93 => ⟨S64, .f32⟩
  | 94 => ⟨S1x64x1, .f32⟩
  | 95 => ⟨S1x64x1, .f32⟩
  | 96 => ⟨S1x64x1, .f32⟩
  | 97 => ⟨S_, .f32⟩
  | 98 => ⟨S_, .i1⟩
  | 99 => ⟨S_, .f32⟩
  | 100 => ⟨S_, .f32⟩
  | 101 => ⟨S1x64x1, .f32⟩
  | 102 => ⟨S1x64x1, .f32⟩
  | 103 => ⟨S32x64x8256, .f32⟩
  | 104 => ⟨S32x64x8256, .f32⟩
  | 105 => ⟨S_, .f32⟩
  | 106 => ⟨S1x64x1, .f32⟩
  | 107 => ⟨S1x64x1, .f32⟩
  | 108 => ⟨S1x64x1, .f32⟩
  | 109 => ⟨S32x64x8256, .f32⟩
  | 110 => ⟨S32x64x8256, .f32⟩
  | 111 => ⟨S1x64x1, .f32⟩
  | 112 => ⟨S32x64x8256, .f32⟩
  | 113 => ⟨S32x64x8256, .f32⟩
  | 114 => ⟨S1x64x1, .f32⟩
  | 115 => ⟨S32x64x8256, .f32⟩
  | 116 => ⟨S32x64x8256, .f32⟩
  | 117 => ⟨S_, .f32⟩
  | 118 => ⟨S32x64x8256, .f32⟩
  | 119 => ⟨S32x64x8256, .f32⟩
  | 120 => ⟨S32x8256x64, .f32⟩
  | 121 => ⟨S32x64x8256, .f32⟩
  | 122 => ⟨S1x64x1, .f32⟩
  | 123 => ⟨S32x64x8256, .f32⟩
  | 124 => ⟨S32x64x8256, .f32⟩
  | 125 => ⟨S_, .f32⟩
  | 126 => ⟨S64, .f32⟩
  | 127 => ⟨S1x64x1, .f32⟩
  | _ => ⟨S32x4x128, .f32⟩

abbrev hbmTy0_2 (i : Nat) : BufTy := match i % 128 with
  | 0 => ⟨S_, .f32⟩
  | 1 => ⟨S1x64x1, .f32⟩
  | 2 => ⟨S1x64x1, .f32⟩
  | 3 => ⟨S_, .i32⟩
  | 4 => ⟨S_, .f32⟩
  | 5 => ⟨S64, .f32⟩
  | 6 => ⟨S1x64x1, .f32⟩
  | 7 => ⟨S_, .f32⟩
  | 8 => ⟨S1x64x1, .f32⟩
  | 9 => ⟨S1x64x1, .f32⟩
  | 10 => ⟨S32x64x8256, .f32⟩
  | 11 => ⟨S32x64x8256, .f32⟩
  | 12 => ⟨S32x64x8256, .f32⟩
  | 13 => ⟨S_, .f32⟩
  | 14 => ⟨S_, .f32⟩
  | 15 => ⟨S_, .f32⟩
  | 16 => ⟨S_, .f32⟩
  | 17 => ⟨S64, .f32⟩
  | 18 => ⟨S1x64x1, .f32⟩
  | 19 => ⟨S1x64x1, .f32⟩
  | 20 => ⟨S1x64x1, .f32⟩
  | 21 => ⟨S_, .f32⟩
  | 22 => ⟨S_, .i1⟩
  | 23 => ⟨S_, .f32⟩
  | 24 => ⟨S_, .f32⟩
  | 25 => ⟨S1x64x1, .f32⟩
  | 26 => ⟨S1x64x1, .f32⟩
  | 27 => ⟨S32x64x8256, .f32⟩
  | 28 => ⟨S32x64x8256, .f32⟩
  | 29 => ⟨S_, .f32⟩
  | 30 => ⟨S1x64x1, .f32⟩
  | 31 => ⟨S1x64x1, .f32⟩
  | 32 => ⟨S1x64x1, .f32⟩
  | 33 => ⟨S32x64x8256, .f32⟩
  | 34 => ⟨S32x64x8256, .f32⟩
  | 35 => ⟨S1x64x1, .f32⟩
  | 36 => ⟨S32x64x8256, .f32⟩
  | 37 => ⟨S32x64x8256, .f32⟩
  | 38 => ⟨S1x64x1, .f32⟩
  | 39 => ⟨S32x64x8256, .f32⟩
  | 40 => ⟨S32x64x8256, .f32⟩
  | 41 => ⟨S_, .f32⟩
  | 42 => ⟨S32x64x8256, .f32⟩
  | 43 => ⟨S32x64x8256, .f32⟩
  | 44 => ⟨S32x8256x64, .f32⟩
  | 45 => ⟨S32x64x8256, .f32⟩
  | 46 => ⟨S1x64x1, .f32⟩
  | 47 => ⟨S32x64x8256, .f32⟩
  | 48 => ⟨S32x64x8256, .f32⟩
  | 49 => ⟨S_, .f32⟩
  | 50 => ⟨S64, .f32⟩
  | 51 => ⟨S1x64x1, .f32⟩
  | 52 => ⟨S_, .f32⟩
  | 53 => ⟨S1x64x1, .f32⟩
  | 54 => ⟨S1x64x1, .f32⟩
  | 55 => ⟨S_, .i32⟩
  | 56 => ⟨S_, .f32⟩
  | 57 => ⟨S64, .f32⟩
  | 58 => ⟨S1x64x1, .f32⟩
  | 59 => ⟨S_, .f32⟩
  | 60 => ⟨S1x64x1, .f32⟩
  | 61 => ⟨S1x64x1, .f32⟩
  | 62 => ⟨S32x64x8256, .f32⟩
  | 63 => ⟨S32x64x8256, .f32⟩
  | 64 => ⟨S32x64x8256, .f32⟩
  | 65 => ⟨S_, .f32⟩
  | 66 => ⟨S_, .f32⟩
  | 67 => ⟨S_, .f32⟩
  | 68 => ⟨S_, .f32⟩
  | 69 => ⟨S64, .f32⟩
  | 70 => ⟨S1x64x1, .f32⟩
  | 71 => ⟨S1x64x1, .f32⟩
  | 72 => ⟨S1x64x1, .f32⟩
  | 73 => ⟨S_, .f32⟩
  | 74 => ⟨S_, .i1⟩
  | 75 => ⟨S_, .f32⟩
  | 76 => ⟨S_, .f32⟩
  | 77 => ⟨S1x64x1, .f32⟩
  | 78 => ⟨S1x64x1, .f32⟩
  | 79 => ⟨S32x64x8256, .f32⟩
  | 80 => ⟨S32x64x8256, .f32⟩
  | 81 => ⟨S_, .f32⟩
  | 82 => ⟨S1x64x1, .f32⟩
  | 83 => ⟨S1x64x1, .f32⟩
  | 84 => ⟨S1x64x1, .f32⟩
  | 85 => ⟨S32x64x8256, .f32⟩
  | 86 => ⟨S32x64x8256, .f32⟩
  | 87 => ⟨S1x64x1, .f32⟩
  | 88 => ⟨S32x64x8256, .f32⟩
  | 89 => ⟨S32x64x8256, .f32⟩
  | 90 => ⟨S1x64x1, .f32⟩
  | 91 => ⟨S32x64x8256, .f32⟩
  | 92 => ⟨S32x64x8256, .f32⟩
  | 93 => ⟨S_, .f32⟩
  | 94 => ⟨S32x64x8256, .f32⟩
  | 95 => ⟨S32x64x8256, .f32⟩
  | 96 => ⟨S_, .f32⟩
  | 97 => ⟨S32x64x128x128, .f32⟩
  | 98 => ⟨S_, .i32⟩
  | 99 => ⟨S8256, .i32⟩
  | 100 => ⟨S8256, .i1⟩
  | 101 => ⟨S_, .i32⟩
  | 102 => ⟨S8256, .i32⟩
  | 103 => ⟨S8256, .i32⟩
  | 104 => ⟨S8256, .i32⟩
  | 105 => ⟨S_, .i32⟩
  | 106 => ⟨S8256, .i32⟩
  | 107 => ⟨S8256, .i1⟩
  | 108 => ⟨S_, .i32⟩
  | 109 => ⟨S8256, .i32⟩
  | 110 => ⟨S8256, .i32⟩
  | 111 => ⟨S8256, .i32⟩
  | 112 => ⟨S8256x1, .i32⟩
  | 113 => ⟨S8256x1, .i32⟩
  | 114 => ⟨S8256x2, .i32⟩
  | 115 => ⟨S32x64x128x128, .f32⟩
  | 116 => ⟨S_, .i32⟩
  | 117 => ⟨S8256, .i32⟩
  | 118 => ⟨S8256, .i1⟩
  | 119 => ⟨S_, .i32⟩
  | 120 => ⟨S8256, .i32⟩
  | 121 => ⟨S8256, .i32⟩
  | 122 => ⟨S8256, .i32⟩
  | 123 => ⟨S_, .i32⟩
  | 124 => ⟨S8256, .i32⟩
  | 125 => ⟨S8256, .i1⟩
  | 126 => ⟨S_, .i32⟩
  | 127 => ⟨S8256, .i32⟩
  | _ => ⟨S32x4x128, .f32⟩

abbrev hbmTy0_3 (i : Nat) : BufTy := match i % 128 with
  | 0 => ⟨S8256, .i32⟩
  | 1 => ⟨S8256, .i32⟩
  | 2 => ⟨S8256x1, .i32⟩
  | 3 => ⟨S8256x1, .i32⟩
  | 4 => ⟨S8256x2, .i32⟩
  | 5 => ⟨S32x64x128x128, .f32⟩
  | _ => ⟨S32x4x128, .f32⟩

abbrev hbmTy (i : Nat) : BufTy := match i / 128 with
  | 0 => hbmTy0_0 i
  | 1 => hbmTy0_1 i
  | 2 => hbmTy0_2 i
  | 3 => hbmTy0_3 i
  | _ => ⟨S32x4x128, .f32⟩

abbrev bufTy : (tb : Table) → Fin (tcTables nBuf tb) → BufTy
  | .hbm, ⟨i, _⟩ => hbmTy i
  | _, _ => ⟨S32x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_c_1 : Ref sig .tc := ⟨.hbm, 17, rfl⟩
abbrev main_v0 : Ref sig .tc := ⟨.hbm, 18, rfl⟩
abbrev main_v1 : Ref sig .tc := ⟨.hbm, 19, rfl⟩
abbrev main_c_2 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_3 : Ref sig .tc := ⟨.hbm, 26, rfl⟩
abbrev main_v7 : Ref sig .tc := ⟨.hbm, 27, rfl⟩
abbrev main_v8 : Ref sig .tc := ⟨.hbm, 28, rfl⟩
abbrev main_c_4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_call1_v0 : Ref sig .tc := ⟨.hbm, 81, rfl⟩
abbrev main_call1_v1 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_cst_13 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_cst : Ref sig .tc := ⟨.hbm, 101, rfl⟩
abbrev main_call2_v3 : Ref sig .tc := ⟨.hbm, 102, rfl⟩
abbrev main_call2_v4 : Ref sig .tc := ⟨.hbm, 103, rfl⟩
abbrev main_call2_cst_0 : Ref sig .tc := ⟨.hbm, 104, rfl⟩
abbrev main_call2_v5 : Ref sig .tc := ⟨.hbm, 105, rfl⟩
abbrev main_call2_v6 : Ref sig .tc := ⟨.hbm, 106, rfl⟩
abbrev main_call2_cst_1 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_v12 : Ref sig .tc := ⟨.hbm, 113, rfl⟩
abbrev main_v63 : Ref sig .tc := ⟨.hbm, 114, rfl⟩
abbrev main_cst_14 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_cst_15 : Ref sig .tc := ⟨.hbm, 123, rfl⟩
abbrev main_call3_v0 : Ref sig .tc := ⟨.hbm, 124, rfl⟩
abbrev main_call3_v1 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_16 : Ref sig .tc := ⟨.hbm, 144, rfl⟩
abbrev main_call4_v0 : Ref sig .tc := ⟨.hbm, 145, rfl⟩
abbrev main_call4_v1 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_17 : Ref sig .tc := ⟨.hbm, 152, rfl⟩
abbrev main_v94 : Ref sig .tc := ⟨.hbm, 153, rfl⟩
abbrev main_v95 : Ref sig .tc := ⟨.hbm, 154, rfl⟩
abbrev main_cst_18 : Ref sig .tc := ⟨.hbm, 155, rfl⟩
abbrev main_v96 : Ref sig .tc := ⟨.hbm, 156, rfl⟩
abbrev main_v97 : Ref sig .tc := ⟨.hbm, 157, rfl⟩
abbrev main_c_19 : Ref sig .tc := ⟨.hbm, 158, rfl⟩
abbrev main_call5_cst : Ref sig .tc := ⟨.hbm, 159, rfl⟩
abbrev main_call5_v0 : Ref sig .tc := ⟨.hbm, 160, rfl⟩
abbrev main_call5_v1 : Ref sig .tc := ⟨.hbm, 161, rfl⟩
abbrev main_call5_cst_0 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_call5_v5 : Ref sig .tc := ⟨.hbm, 166, rfl⟩
abbrev main_call5_v6 : Ref sig .tc := ⟨.hbm, 167, rfl⟩
abbrev main_call5_v7 : Ref sig .tc := ⟨.hbm, 168, rfl⟩
abbrev main_call5_cst_1 : Ref sig .tc := ⟨.hbm, 169, rfl⟩
abbrev main_call5_v8 : Ref sig .tc := ⟨.hbm, 170, rfl⟩
abbrev main_call5_cst_2 : Ref sig .tc := ⟨.hbm, 171, rfl⟩
abbrev main_call5_v9 : Ref sig .tc := ⟨.hbm, 172, rfl⟩
abbrev main_call5_v10 : Ref sig .tc := ⟨.hbm, 173, rfl⟩
abbrev main_call5_v11 : Ref sig .tc := ⟨.hbm, 174, rfl⟩
abbrev main_call5_v12 : Ref sig .tc := ⟨.hbm, 175, rfl⟩
abbrev main_call5_cst_3 : Ref sig .tc := ⟨.hbm, 176, rfl⟩
abbrev main_call5_v13 : Ref sig .tc := ⟨.hbm, 177, rfl⟩
abbrev main_call5_cst_4 : Ref sig .tc := ⟨.hbm, 178, rfl⟩
abbrev main_call5_call0_v0 : Ref sig .tc := ⟨.hbm, 179, rfl⟩
abbrev main_call5_call0_v1 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_cst_20 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_cst_21 : Ref sig .tc := ⟨.hbm, 201, rfl⟩
abbrev main_v117 : Ref sig .tc := ⟨.hbm, 202, rfl⟩
abbrev main_v118 : Ref sig .tc := ⟨.hbm, 203, rfl⟩
abbrev main_cst_22 : Ref sig .tc := ⟨.hbm, 204, rfl⟩
abbrev main_v119 : Ref sig .tc := ⟨.hbm, 205, rfl⟩
abbrev main_v120 : Ref sig .tc := ⟨.hbm, 206, rfl⟩
abbrev main_c_23 : Ref sig .tc := ⟨.hbm, 207, rfl⟩
abbrev main_call6_cst : Ref sig .tc := ⟨.hbm, 208, rfl⟩
abbrev main_call6_v0 : Ref sig .tc := ⟨.hbm, 209, rfl⟩
abbrev main_call6_v1 : Ref sig .tc := ⟨.hbm, 210, rfl⟩
abbrev main_call6_cst_0 : Ref sig .tc := ⟨.hbm, 211, rfl⟩
abbrev main_call6_v2 : Ref sig .tc := ⟨.hbm, 212, rfl⟩
abbrev main_call6_v3 : Ref sig .tc := ⟨.hbm, 213, rfl⟩
abbrev main_call6_v4 : Ref sig .tc := ⟨.hbm, 214, rfl⟩
abbrev main_call6_v5 : Ref sig .tc := ⟨.hbm, 215, rfl⟩
abbrev main_call6_v6 : Ref sig .tc := ⟨.hbm, 216, rfl⟩
abbrev main_call6_v7 : Ref sig .tc := ⟨.hbm, 217, rfl⟩
abbrev main_call6_cst_1 : Ref sig .tc := ⟨.hbm, 218, rfl⟩
abbrev main_call6_v8 : Ref sig .tc := ⟨.hbm, 219, rfl⟩
abbrev main_call6_cst_2 : Ref sig .tc := ⟨.hbm, 220, rfl⟩
abbrev main_call6_v9 : Ref sig .tc := ⟨.hbm, 221, rfl⟩
abbrev main_call6_v10 : Ref sig .tc := ⟨.hbm, 222, rfl⟩
abbrev main_call6_v11 : Ref sig .tc := ⟨.hbm, 223, rfl⟩
abbrev main_call6_v12 : Ref sig .tc := ⟨.hbm, 224, rfl⟩
abbrev main_call6_cst_3 : Ref sig .tc := ⟨.hbm, 225, rfl⟩
abbrev main_call6_v13 : Ref sig .tc := ⟨.hbm, 226, rfl⟩
abbrev main_call6_cst_4 : Ref sig .tc := ⟨.hbm, 227, rfl⟩
abbrev main_call6_call0_v0 : Ref sig .tc := ⟨.hbm, 228, rfl⟩
abbrev main_call6_call0_v1 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_cst_24 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_call7_cst : Ref sig .tc := ⟨.hbm, 245, rfl⟩
abbrev main_call7_v0 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_cst_25 : Ref sig .tc := ⟨.hbm, 253, rfl⟩
abbrev main_v141 : Ref sig .tc := ⟨.hbm, 254, rfl⟩
abbrev main_v142 : Ref sig .tc := ⟨.hbm, 255, rfl⟩
abbrev main_cst_26 : Ref sig .tc := ⟨.hbm, 256, rfl⟩
abbrev main_v143 : Ref sig .tc := ⟨.hbm, 257, rfl⟩
abbrev main_v144 : Ref sig .tc := ⟨.hbm, 258, rfl⟩
abbrev main_c_27 : Ref sig .tc := ⟨.hbm, 259, rfl⟩
abbrev main_call8_cst : Ref sig .tc := ⟨.hbm, 260, rfl⟩
abbrev main_call8_v0 : Ref sig .tc := ⟨.hbm, 261, rfl⟩
abbrev main_call8_v1 : Ref sig .tc := ⟨.hbm, 262, rfl⟩
abbrev main_call8_cst_0 : Ref sig .tc := ⟨.hbm, 263, rfl⟩
abbrev main_call8_v2 : Ref sig .tc := ⟨.hbm, 264, rfl⟩
abbrev main_call8_v3 : Ref sig .tc := ⟨.hbm, 265, rfl⟩
abbrev main_call8_v4 : Ref sig .tc := ⟨.hbm, 266, rfl⟩
abbrev main_call8_v5 : Ref sig .tc := ⟨.hbm, 267, rfl⟩
abbrev main_call8_v6 : Ref sig .tc := ⟨.hbm, 268, rfl⟩
abbrev main_call8_v7 : Ref sig .tc := ⟨.hbm, 269, rfl⟩
abbrev main_call8_cst_1 : Ref sig .tc := ⟨.hbm, 270, rfl⟩
abbrev main_call8_v8 : Ref sig .tc := ⟨.hbm, 271, rfl⟩
abbrev main_call8_cst_2 : Ref sig .tc := ⟨.hbm, 272, rfl⟩
abbrev main_call8_v9 : Ref sig .tc := ⟨.hbm, 273, rfl⟩
abbrev main_call8_v10 : Ref sig .tc := ⟨.hbm, 274, rfl⟩
abbrev main_call8_v11 : Ref sig .tc := ⟨.hbm, 275, rfl⟩
abbrev main_call8_v12 : Ref sig .tc := ⟨.hbm, 276, rfl⟩
abbrev main_call8_cst_3 : Ref sig .tc := ⟨.hbm, 277, rfl⟩
abbrev main_call8_v13 : Ref sig .tc := ⟨.hbm, 278, rfl⟩
abbrev main_call8_cst_4 : Ref sig .tc := ⟨.hbm, 279, rfl⟩
abbrev main_call8_call0_v0 : Ref sig .tc := ⟨.hbm, 280, rfl⟩
abbrev main_call8_call0_v1 : Ref sig .tc := ⟨.hbm, 281, rfl⟩
abbrev main_v145 : Ref sig .tc := ⟨.hbm, 282, rfl⟩
abbrev main_v146 : Ref sig .tc := ⟨.hbm, 283, rfl⟩
abbrev main_v147 : Ref sig .tc := ⟨.hbm, 284, rfl⟩
abbrev main_cst_28 : Ref sig .tc := ⟨.hbm, 285, rfl⟩
abbrev main_v148 : Ref sig .tc := ⟨.hbm, 286, rfl⟩
abbrev main_v149 : Ref sig .tc := ⟨.hbm, 287, rfl⟩
abbrev main_v150 : Ref sig .tc := ⟨.hbm, 288, rfl⟩
abbrev main_v151 : Ref sig .tc := ⟨.hbm, 289, rfl⟩
abbrev main_v152 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_v156 : Ref sig .tc := ⟨.hbm, 294, rfl⟩
abbrev main_v157 : Ref sig .tc := ⟨.hbm, 295, rfl⟩
abbrev main_v158 : Ref sig .tc := ⟨.hbm, 296, rfl⟩
abbrev main_call9_cst : Ref sig .tc := ⟨.hbm, 297, rfl⟩
abbrev main_call9_v0 : Ref sig .tc := ⟨.hbm, 298, rfl⟩
abbrev main_v159 : Ref sig .tc := ⟨.hbm, 299, rfl⟩
abbrev main_v160 : Ref sig .tc := ⟨.hbm, 300, rfl⟩
abbrev main_v161 : Ref sig .tc := ⟨.hbm, 301, rfl⟩
abbrev main_v162 : Ref sig .tc := ⟨.hbm, 302, rfl⟩
abbrev main_v163 : Ref sig .tc := ⟨.hbm, 303, rfl⟩
abbrev main_v164 : Ref sig .tc := ⟨.hbm, 304, rfl⟩
abbrev main_cst_29 : Ref sig .tc := ⟨.hbm, 305, rfl⟩
abbrev main_v165 : Ref sig .tc := ⟨.hbm, 306, rfl⟩
abbrev main_v166 : Ref sig .tc := ⟨.hbm, 307, rfl⟩
abbrev main_cst_30 : Ref sig .tc := ⟨.hbm, 308, rfl⟩
abbrev main_v167 : Ref sig .tc := ⟨.hbm, 309, rfl⟩
abbrev main_v168 : Ref sig .tc := ⟨.hbm, 310, rfl⟩
abbrev main_c_31 : Ref sig .tc := ⟨.hbm, 311, rfl⟩
abbrev main_call10_cst : Ref sig .tc := ⟨.hbm, 312, rfl⟩
abbrev main_call10_v0 : Ref sig .tc := ⟨.hbm, 313, rfl⟩
abbrev main_call10_v1 : Ref sig .tc := ⟨.hbm, 314, rfl⟩
abbrev main_call10_cst_0 : Ref sig .tc := ⟨.hbm, 315, rfl⟩
abbrev main_call10_v2 : Ref sig .tc := ⟨.hbm, 316, rfl⟩
abbrev main_call10_v3 : Ref sig .tc := ⟨.hbm, 317, rfl⟩
abbrev main_call10_v4 : Ref sig .tc := ⟨.hbm, 318, rfl⟩
abbrev main_call10_v5 : Ref sig .tc := ⟨.hbm, 319, rfl⟩
abbrev main_call10_v6 : Ref sig .tc := ⟨.hbm, 320, rfl⟩
abbrev main_call10_v7 : Ref sig .tc := ⟨.hbm, 321, rfl⟩
abbrev main_call10_cst_1 : Ref sig .tc := ⟨.hbm, 322, rfl⟩
abbrev main_call10_v8 : Ref sig .tc := ⟨.hbm, 323, rfl⟩
abbrev main_call10_cst_2 : Ref sig .tc := ⟨.hbm, 324, rfl⟩
abbrev main_call10_v9 : Ref sig .tc := ⟨.hbm, 325, rfl⟩
abbrev main_call10_v10 : Ref sig .tc := ⟨.hbm, 326, rfl⟩
abbrev main_call10_v11 : Ref sig .tc := ⟨.hbm, 327, rfl⟩
abbrev main_call10_v12 : Ref sig .tc := ⟨.hbm, 328, rfl⟩
abbrev main_call10_cst_3 : Ref sig .tc := ⟨.hbm, 329, rfl⟩
abbrev main_call10_v13 : Ref sig .tc := ⟨.hbm, 330, rfl⟩
abbrev main_call10_cst_4 : Ref sig .tc := ⟨.hbm, 331, rfl⟩
abbrev main_call10_call0_v0 : Ref sig .tc := ⟨.hbm, 332, rfl⟩
abbrev main_call10_call0_v1 : Ref sig .tc := ⟨.hbm, 333, rfl⟩
abbrev main_v169 : Ref sig .tc := ⟨.hbm, 334, rfl⟩
abbrev main_v170 : Ref sig .tc := ⟨.hbm, 335, rfl⟩
abbrev main_v171 : Ref sig .tc := ⟨.hbm, 336, rfl⟩
abbrev main_cst_32 : Ref sig .tc := ⟨.hbm, 337, rfl⟩
abbrev main_v172 : Ref sig .tc := ⟨.hbm, 338, rfl⟩
abbrev main_v173 : Ref sig .tc := ⟨.hbm, 339, rfl⟩
abbrev main_v174 : Ref sig .tc := ⟨.hbm, 340, rfl⟩
abbrev main_v175 : Ref sig .tc := ⟨.hbm, 341, rfl⟩
abbrev main_v176 : Ref sig .tc := ⟨.hbm, 342, rfl⟩
abbrev main_v177 : Ref sig .tc := ⟨.hbm, 343, rfl⟩
abbrev main_v178 : Ref sig .tc := ⟨.hbm, 344, rfl⟩
abbrev main_v179 : Ref sig .tc := ⟨.hbm, 345, rfl⟩
abbrev main_v180 : Ref sig .tc := ⟨.hbm, 346, rfl⟩
abbrev main_v181 : Ref sig .tc := ⟨.hbm, 347, rfl⟩
abbrev main_v182 : Ref sig .tc := ⟨.hbm, 348, rfl⟩
abbrev main_call11_cst : Ref sig .tc := ⟨.hbm, 349, rfl⟩
abbrev main_call11_v0 : Ref sig .tc := ⟨.hbm, 350, rfl⟩
abbrev main_v183 : Ref sig .tc := ⟨.hbm, 351, rfl⟩
abbrev main_cst_33 : Ref sig .tc := ⟨.hbm, 352, rfl⟩
abbrev main_v184 : Ref sig .tc := ⟨.hbm, 353, rfl⟩
abbrev main_c_34 : Ref sig .tc := ⟨.hbm, 354, rfl⟩
abbrev main_v185 : Ref sig .tc := ⟨.hbm, 355, rfl⟩
abbrev main_v186 : Ref sig .tc := ⟨.hbm, 356, rfl⟩
abbrev main_c_35 : Ref sig .tc := ⟨.hbm, 357, rfl⟩
abbrev main_v187 : Ref sig .tc := ⟨.hbm, 358, rfl⟩
abbrev main_v188 : Ref sig .tc := ⟨.hbm, 359, rfl⟩
abbrev main_v189 : Ref sig .tc := ⟨.hbm, 360, rfl⟩
abbrev main_c_36 : Ref sig .tc := ⟨.hbm, 361, rfl⟩
abbrev main_v190 : Ref sig .tc := ⟨.hbm, 362, rfl⟩
abbrev main_v191 : Ref sig .tc := ⟨.hbm, 363, rfl⟩
abbrev main_c_37 : Ref sig .tc := ⟨.hbm, 364, rfl⟩
abbrev main_v192 : Ref sig .tc := ⟨.hbm, 365, rfl⟩
abbrev main_v193 : Ref sig .tc := ⟨.hbm, 366, rfl⟩
abbrev main_v194 : Ref sig .tc := ⟨.hbm, 367, rfl⟩
abbrev main_v195 : Ref sig .tc := ⟨.hbm, 368, rfl⟩
abbrev main_v196 : Ref sig .tc := ⟨.hbm, 369, rfl⟩
abbrev main_v197 : Ref sig .tc := ⟨.hbm, 370, rfl⟩
abbrev main_v198 : Ref sig .tc := ⟨.hbm, 371, rfl⟩
abbrev main_c_38 : Ref sig .tc := ⟨.hbm, 372, rfl⟩
abbrev main_v199 : Ref sig .tc := ⟨.hbm, 373, rfl⟩
abbrev main_v200 : Ref sig .tc := ⟨.hbm, 374, rfl⟩
abbrev main_c_39 : Ref sig .tc := ⟨.hbm, 375, rfl⟩
abbrev main_v201 : Ref sig .tc := ⟨.hbm, 376, rfl⟩
abbrev main_v202 : Ref sig .tc := ⟨.hbm, 377, rfl⟩
abbrev main_v203 : Ref sig .tc := ⟨.hbm, 378, rfl⟩
abbrev main_c_40 : Ref sig .tc := ⟨.hbm, 379, rfl⟩
abbrev main_v204 : Ref sig .tc := ⟨.hbm, 380, rfl⟩
abbrev main_v205 : Ref sig .tc := ⟨.hbm, 381, rfl⟩
abbrev main_c_41 : Ref sig .tc := ⟨.hbm, 382, rfl⟩
abbrev main_v206 : Ref sig .tc := ⟨.hbm, 383, rfl⟩
abbrev main_v207 : Ref sig .tc := ⟨.hbm, 384, rfl⟩
abbrev main_v208 : Ref sig .tc := ⟨.hbm, 385, rfl⟩
abbrev main_v209 : Ref sig .tc := ⟨.hbm, 386, rfl⟩
abbrev main_v210 : Ref sig .tc := ⟨.hbm, 387, rfl⟩
abbrev main_v211 : Ref sig .tc := ⟨.hbm, 388, rfl⟩
abbrev main_v212 : Ref sig .tc := ⟨.hbm, 389, rfl⟩

abbrev nD : Nat := 1
abbrev τ : Topo := Topo.v7x

variable {F : FTy → Type} [FloatOps F]
-- ==== Proof.KernelRun.lean ====
/- The kernel's run: what the result array holds when the program ends. -/
module

public import proofs.«01_k».proof.Proof.Gen.KernelIdeal.Frame
public import Idealize.ShloMosaic.Lib.Pointwise

@[expose] public section

set_option maxRecDepth 16384

noncomputable section

namespace Cert.KernelIdeal.Value

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program ends with the result array at the contents of the last boundary and every argument as launched. -/
theorem run : θ_run defs (onTc (τ := τ) (main (F := Ideal))) ⟨m, fun _ => 0, ρ⟩ (fun r => ∀ c : Dev nD,
      r.2.mem ((c.tc : Thread nD τ).loc main_v0) = W10 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz c =>
      ⟨h c _ (mem_uc main_v0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.Value

end
-- ==== Proof.Model.lean ====
/- The mathematics of the problem over the real numbers: pair features, batch normalization over the lower
   triangle, the three linear layers. Nothing here mentions a program. -/
module

public import Mathlib.Analysis.SpecialFunctions.Log.Basic
public import Mathlib.Analysis.SpecialFunctions.Trigonometric.Arctan
public import Mathlib.Algebra.BigOperators.Field
public import Mathlib.Data.EReal.Operations

@[expose] public section

noncomputable section

namespace Pairs

open Finset

/-- A quantity with one value at each batch entry, row and column. -/
abbrev Grid : Type := Fin 32 → Fin 128 → Fin 128 → ℝ

/-- The single-precision `π`. -/
def cpi : ℝ := 13176795 / 4194304
/-- Twice the single-precision `π`. -/
def ctau : ℝ := 13176795 / 2097152
/-- The least denominator in the rapidity (the single-precision `1e-20`). -/
def c20 : ℝ := 12379400 / 2 ^ 90
/-- The least distance and squared mass (the single-precision `1e-8`). -/
def c8 : ℝ := 11258999 / 2 ^ 50
/-- What is added to a variance (the single-precision `1e-5`). -/
def ceps : ℝ := 10995116 / 2 ^ 40
/-- How many pairs there are: 32 batch entries with 8256 each. -/
def cn : ℝ := 264192

/-- The argument of the logarithm in the rapidity. -/
def rarg (pz e : ℝ) : ℝ := 1 + 2 * pz / max (e - pz) c20

/-- The rapidity. -/
def rap (pz e : ℝ) : ℝ := 1 / 2 * Real.log (rarg pz e)

/-- The angle of the point with ordinate `y` and abscissa `x`. -/
def ang (y x : ℝ) : ℝ :=
  if 0 < x then Real.arctan (y / x)
  else if x < 0 then (if 0 ≤ y then Real.arctan (y / x) + Real.pi else Real.arctan (y / x) - Real.pi)
  else if 0 < y then Real.pi / 2 else if y < 0 then -(Real.pi / 2) else 0

/-- The angle difference reduced to one turn. -/
def wrap (d : ℝ) : ℝ := (d + cpi) - ctau * (⌊(d + cpi) / ctau⌋ : ℝ) - cpi

/-- The logarithm of the distance of two particles. -/
def lnd (dr d : ℝ) : ℝ := Real.log (max (Real.sqrt (dr * dr + wrap d * wrap d)) c8)

/-- The logarithm of the squared mass of two particles. -/
def lnm (x y z e : ℝ) : ℝ := Real.log (max (e * e - (x * x + y * y + z * z)) c8)

/-- The first feature of the pair of a row and a column. -/
def feat0 (x : Fin 32 → Fin 4 → Fin 128 → ℝ) : Grid := fun b r c =>
  lnd (rap (x b 2 r) (x b 3 r) - rap (x b 2 c) (x b 3 c)) (ang (x b 1 r) (x b 0 r) - ang (x b 1 c) (x b 0 c))

/-- The second feature of the pair of a row and a column. -/
def feat1 (x : Fin 32 → Fin 4 → Fin 128 → ℝ) : Grid := fun b r c =>
  lnm (x b 0 r + x b 0 c) (x b 1 r + x b 1 c) (x b 2 r + x b 2 c) (x b 3 r + x b 3 c)

/-- The two features. -/
def feat (x : Fin 32 → Fin 4 → Fin 128 → ℝ) : Fin 2 → Grid := ![feat0 x, feat1 x]

/-- The sum over the batch and the lower triangle. -/
def tsum (f : Grid) : ℝ := ∑ b, ∑ r, ∑ c, if c ≤ r then f b r c else 0

/-- The mean over the batch and the lower triangle. -/
def mean (f : Grid) : ℝ := tsum f / cn

/-- The variance over the batch and the lower triangle. -/
def var (f : Grid) : ℝ := tsum (fun b r c => (f b r c - mean f) * (f b r c - mean f)) / cn

/-- The normalized quantity before its scale and shift. -/
def nrm (f : Grid) : Grid := fun b r c => (f b r c - mean f) / Real.sqrt (var f + ceps)

/-- Batch normalization with scale `g` and shift `be`. -/
def bn (f : Grid) (g be : ℝ) : Grid := fun b r c => nrm f b r c * g + be

/-- One output channel of a linear layer. -/
def lin {k : ℕ} (w : Fin k → ℝ) (h : Fin k → Grid) (b0 : ℝ) : Grid := fun b r c => ∑ i, h i b r c * w i + b0

/-- The rectified quantity. -/
def relu (f : Grid) : Grid := fun b r c => max (f b r c) 0

/-- The scale that the kernel multiplies a channel by. -/
def scl (f : Grid) (g : ℝ) : ℝ := g * (Real.sqrt (var f + ceps))⁻¹

/-- The first layer's output channel as the kernel forms it, from folded weights. -/
def lin1 (A : Fin 64 → Fin 2 → ℝ) (cv : Fin 64 → ℝ) (x : Fin 32 → Fin 4 → Fin 128 → ℝ) : Fin 64 → Grid := fun o b r c =>
  A o 0 * feat0 x b r c + A o 1 * feat1 x b r c + cv o

/-- A later layer's output channel as the kernel forms it, from a scale and a shift of the layer below. -/
def lin2 (a s : Fin 64 → ℝ) (w : Fin 64 → Fin 64 → ℝ) (b0 : Fin 64 → ℝ) (z : Fin 64 → Grid) : Fin 64 → Grid := fun o b r c =>
  ∑ k, w o k * max (a k * z k b r c + s k) 0 + b0 o

/-- The sum over the row's part of the lower triangle. -/
def rsum (f : Grid) (b : Fin 32) (r : Fin 128) : ℝ := ∑ c, f b r c * (if c ≤ r then 1 else 0)

/-- The sum over the column's part of the lower triangle. -/
def csum (f : Grid) (b : Fin 32) (c : Fin 128) : ℝ := ∑ r, f b r c * (if c ≤ r then 1 else 0)

/-- The values' squares. -/
def sq (f : Fin 64 → Grid) : Fin 64 → Grid := fun o b r c => f o b r c * f o b r c

/-- The row sums add up to the sum over the pairs. -/
theorem rsum_total (f : Grid) : ∑ b, ∑ r, rsum f b r = tsum f := by
  unfold rsum tsum
  simp only [mul_ite, mul_one, mul_zero]

/-- The column sums add up to the sum over the pairs. -/
theorem csum_total (f : Grid) : ∑ b, ∑ c, csum f b c = tsum f := by
  unfold csum tsum
  simp only [mul_ite, mul_one, mul_zero]
  exact sum_congr rfl fun b _ => sum_comm

/-- The sum over the pairs is additive. -/
theorem tsum_add (f g : Grid) : tsum (fun b r c => f b r c + g b r c) = tsum f + tsum g := by
  unfold tsum
  simp only [← sum_add_distrib]
  refine sum_congr rfl fun b _ => sum_congr rfl fun r _ => sum_congr rfl fun c _ => ?_
  split <;> simp

/-- A factor leaves the sum over the pairs. -/
theorem tsum_mul (k : ℝ) (f : Grid) : tsum (fun b r c => k * f b r c) = k * tsum f := by
  unfold tsum
  simp only [mul_sum, mul_ite, mul_zero]

/-- There are 8256 positions on and below the diagonal. -/
theorem card_tri : ∑ r : Fin 128, ∑ c : Fin 128, (if c ≤ r then (1 : ℕ) else 0) = 8256 := by decide +kernel

/-- The sum of a constant over the pairs. -/
theorem tsum_const (k : ℝ) : tsum (fun _ _ _ => k) = cn * k := by
  have h : ∑ r : Fin 128, ∑ c : Fin 128, (if c ≤ r then k else 0) = 8256 * k := by
    have := congrArg (fun n : ℕ => (n : ℝ) * k) card_tri
    simp only [Nat.cast_sum, sum_mul, Nat.cast_ite, Nat.cast_one, Nat.cast_zero, ite_mul, one_mul, zero_mul] at this
    rw [this]; norm_num
  unfold tsum cn
  beta_reduce
  rw [h, sum_const, card_univ, Fintype.card_fin]
  simp only [nsmul_eq_mul]; push_cast; ring

/-- The number of pairs is positive. -/
theorem cn_pos : 0 < cn := by norm_num [cn]

/-- The constant added to a variance is positive. -/
theorem ceps_pos : 0 < ceps := by norm_num [ceps]

/-- The clip of a rapidity's denominator is positive. -/
theorem c20_pos : 0 < c20 := by norm_num [c20]

/-- The clip of a logarithm's argument is positive. -/
theorem c8_pos : 0 < c8 := by norm_num [c8]

/-- The full turn is positive. -/
theorem ctau_pos : 0 < ctau := by norm_num [ctau]

/-- The full turn is two half turns. -/
theorem ctau_eq : ctau = 2 * cpi := by norm_num [ctau, cpi]

/-- A variance is not negative. -/
theorem var_nonneg (f : Grid) : 0 ≤ var f := by
  refine div_nonneg (sum_nonneg fun b _ => sum_nonneg fun r _ => sum_nonneg fun c _ => ?_) cn_pos.le
  split
  · exact mul_self_nonneg _
  · exact le_rfl

/-- The variance is the mean of the squares less the square of the mean. -/
theorem var_eq (f : Grid) : tsum (fun b r c => f b r c * f b r c) / cn - mean f * mean f = var f := by
  have e : (fun b r c => (f b r c - mean f) * (f b r c - mean f) : Grid)
      = fun b r c => (f b r c * f b r c + (-2 * mean f) * f b r c) + mean f * mean f := by
    funext b r c; ring
  have h1 := tsum_add (fun b r c => f b r c * f b r c + (-2 * mean f) * f b r c) (fun _ _ _ => mean f * mean f)
  have h2 := tsum_add (fun b r c => f b r c * f b r c) (fun b r c => (-2 * mean f) * f b r c)
  have h3 := tsum_mul (-2 * mean f) f
  have h4 := tsum_const (mean f * mean f)
  have h5 : tsum f = cn * mean f := by unfold mean; field_simp [cn_pos.ne']
  unfold var
  rw [e, h1, h2, h3, h4, h5]
  field_simp [cn_pos.ne']
  ring

/-- A standard deviation is positive. -/
theorem sd_pos (f : Grid) : 0 < Real.sqrt (var f + ceps) := Real.sqrt_pos.2 (add_pos_of_nonneg_of_pos (var_nonneg f) ceps_pos)

/-- A variance with the added constant is positive. -/
theorem den_pos (f : Grid) : 0 < var f + ceps := add_pos_of_nonneg_of_pos (var_nonneg f) ceps_pos

/-- The kernel's scale and shift of a channel normalize it. -/
theorem affine (f : Grid) (g be : ℝ) (b : Fin 32) (r c : Fin 128) :
    scl f g * f b r c + (be - mean f * scl f g) = bn f g be b r c := by
  unfold bn nrm scl
  field_simp [(sd_pos f).ne']
  ring

/-- The same with the shift kept apart. -/
theorem affine' (f : Grid) (g : ℝ) (b : Fin 32) (r c : Fin 128) :
    scl f g * f b r c - mean f * scl f g = nrm f b r c * g := by
  unfold nrm scl
  field_simp [(sd_pos f).ne']

/-- The first layer with the normalization folded into its weights. -/
theorem fold (f : Fin 2 → Grid) (g be w : Fin 2 → ℝ) (b0 : ℝ) (b : Fin 32) (r c : Fin 128) :
    (w 0 * scl (f 0) (g 0)) * f 0 b r c + (w 1 * scl (f 1) (g 1)) * f 1 b r c
      + ((∑ i : Fin 2, w i * (be i - mean (f i) * scl (f i) (g i))) + b0)
      = lin w (fun i => bn (f i) (g i) (be i)) b0 b r c := by
  unfold lin
  rw [Fin.sum_univ_two, Fin.sum_univ_two]
  beta_reduce
  rw [← affine, ← affine]
  ring

/-! ## The features of a pair do not depend on its order -/

/-- The square of a wrapped angle does not depend on the angle's sign. -/
theorem wrap_neg_sq (d : ℝ) : wrap (-d) * wrap (-d) = wrap d * wrap d := by
  have hp := ctau_pos
  have e : cpi = ctau / 2 := by rw [ctau_eq]; ring
  unfold wrap
  rw [e]
  set t := ctau
  set u := (d + t / 2) / t with hu
  have hd : d = u * t - t / 2 := by rw [hu]; field_simp; ring
  have hv : (-d + t / 2) / t = 1 - u := by rw [hd]; field_simp; ring
  rw [hv]
  have hneg : -d + t / 2 = t * (1 - u) := by rw [hd]; ring
  have hpos : d + t / 2 = t * u := by rw [hd]; ring
  rw [hneg, hpos]
  by_cases hi : ∃ k : ℤ, (k : ℝ) = u
  · obtain ⟨k, hk⟩ := hi
    rw [← hk]
    have h1 : ⌊(1 : ℝ) - (k : ℝ)⌋ = 1 - k := by
      rw [show (1 : ℝ) - (k : ℝ) = ((1 - k : ℤ) : ℝ) by push_cast; ring, Int.floor_intCast]
    rw [h1, Int.floor_intCast]
    push_cast
    ring
  · have hf : ⌊(1 : ℝ) - u⌋ = -⌊u⌋ := by
      have h1 := Int.floor_le u
      have h2 := Int.lt_floor_add_one u
      have h3 : (⌊u⌋ : ℝ) < u := lt_of_le_of_ne h1 fun h => hi ⟨_, h⟩
      rw [Int.floor_eq_iff]
      push_cast
      constructor <;> linarith
    rw [hf]
    push_cast
    ring

/-- The first feature does not depend on the order of the two particles. -/
theorem lnd_neg (a b p q : ℝ) : lnd (a - b) (p - q) = lnd (b - a) (q - p) := by
  unfold lnd
  rw [← neg_sub q p, wrap_neg_sq (q - p), ← neg_sub b a, neg_mul_neg]

/-- Both features are symmetric in the two particles. -/
theorem feat_symm (x : Fin 32 → Fin 4 → Fin 128 → ℝ) (k : Fin 2) (b : Fin 32) (r c : Fin 128) :
    feat x k b r c = feat x k b c r := by
  match k with
  | 0 => exact lnd_neg _ _ _ _
  | 1 => exact congrArg₂ (fun (s t : ℝ × ℝ) => lnm s.1 s.2 t.1 t.2) (congrArg₂ Prod.mk (add_comm _ _) (add_comm _ _))
          (congrArg₂ Prod.mk (add_comm _ _) (add_comm _ _))

end Pairs

end
-- ==== Proof.Coe.lean ====
/- The scalar expressions that the programs compute over the extended reals, at finite arguments: each is the
   real number that Model.lean names. -/
module

public import proofs.«01_k».proof.Proof.Model
public import Idealize.ShloMosaic.Lib.Pointwise
public import Idealize.ShloMosaic.Lib.IdealHost

@[expose] public section

namespace Pairs

open Idealize.ShloMosaic

/-! ## The literals -/

/-- The literal for the half turn. -/
theorem lit_pi : Ideal.ofBits .f32 0x40490FDB#32 = ((cpi : ℝ) : EReal) := by
  simp [Ideal.ofBits, Ideal.ieee, cpi, -EReal.coe_mul]; norm_num
/-- The literal for the full turn. -/
theorem lit_tau : Ideal.ofBits .f32 0x40C90FDB#32 = ((ctau : ℝ) : EReal) := by
  simp [Ideal.ofBits, Ideal.ieee, ctau, -EReal.coe_mul]; norm_num
/-- The literal below which a rapidity's denominator is clipped. -/
theorem lit_c20 : Ideal.ofBits .f32 0x1E3CE508#32 = ((c20 : ℝ) : EReal) := by
  simp [Ideal.ofBits, Ideal.ieee, c20, -EReal.coe_mul]; norm_num
/-- The literal below which a logarithm's argument is clipped. -/
theorem lit_c8 : Ideal.ofBits .f32 0x322BCC77#32 = ((c8 : ℝ) : EReal) := by
  simp [Ideal.ofBits, Ideal.ieee, c8, -EReal.coe_mul]; norm_num
/-- The literal added to a variance. -/
theorem lit_eps : Ideal.ofBits .f32 0x3727C5AC#32 = ((ceps : ℝ) : EReal) := by
  simp [Ideal.ofBits, Ideal.ieee, ceps, -EReal.coe_mul]; norm_num
/-- The literal for the number of pairs. -/
theorem lit_n : Ideal.ofBits .f32 0x48810000#32 = ((cn : ℝ) : EReal) := by
  simp [Ideal.ofBits, Ideal.ieee, cn, -EReal.coe_mul]; norm_num
/-- The literal two. -/
theorem lit_two : Ideal.ofBits .f32 0x40000000#32 = ((2 : ℝ) : EReal) := by
  simp [Ideal.ofBits, Ideal.ieee, -EReal.coe_mul]; norm_num
/-- The literal one half. -/
theorem lit_half : Ideal.ofBits .f32 0x3F000000#32 = ((1 / 2 : ℝ) : EReal) := by
  simp [Ideal.ofBits, Ideal.ieee, -EReal.coe_mul]; norm_num
/-- The literal infinity is the largest extended real. -/
theorem lit_inf : Ideal.ofBits .f32 0x7F800000#32 = ⊤ := by simp [Ideal.ofBits, Ideal.ieee]

/-! ## The operations at real numbers -/

/-- The quotient of two reals with nonzero denominator is real. -/
theorem div_real (x : ℝ) {y : ℝ} (h : y ≠ 0) : Ideal.div (x : EReal) (y : EReal) = ((x / y : ℝ) : EReal) := by
  rw [Ideal.div_coe h, ← EReal.coe_mul]
  congr 1
  field_simp

/-- The root of a nonnegative real. -/
theorem sqrt_real {x : ℝ} (h : 0 ≤ x) : Ideal.sqrt (x : EReal) = ((Real.sqrt x : ℝ) : EReal) := by
  rw [Ideal.sqrt_coe, if_neg (not_lt.2 h)]

/-- The reciprocal root of a positive real. -/
theorem rsqrt_real {x : ℝ} (h : 0 < x) : Ideal.rsqrt (x : EReal) = (((Real.sqrt x)⁻¹ : ℝ) : EReal) := by
  rw [Ideal.rsqrt_coe, if_neg (not_lt.2 h.le), if_neg h.ne']

/-- The logarithm of a positive real. -/
theorem log_real {x : ℝ} (h : 0 < x) : Ideal.log (x : EReal) = ((Real.log x : ℝ) : EReal) := by
  rw [Ideal.log_coe, if_neg (not_le.2 h)]

/-- The larger of two reals. -/
theorem max_real (x y : ℝ) : max (x : EReal) (y : EReal) = ((max x y : ℝ) : EReal) :=
  ((EReal.coe_strictMono.monotone).map_max).symm

/-- A rectified real. -/
theorem relu_real (x : ℝ) : max (x : EReal) 0 = ((max x 0 : ℝ) : EReal) := max_real x 0

/-- The angle of a real point. -/
theorem atan2_real (y x : ℝ) : Ideal.atan2 (y : EReal) (x : EReal) = ((ang y x : ℝ) : EReal) := rfl

/-- The floor of a real. -/
theorem floor_real (x : ℝ) : Ideal.liftRound Int.floor (x : EReal) = (((⌊x⌋ : ℝ) : ℝ) : EReal) := rfl

/-- A finite sum of reals. -/
theorem sum_real {α : Type} [Fintype α] (f : α → ℝ) : ∑ i, ((f i : ℝ) : EReal) = ((∑ i, f i : ℝ) : EReal) := by
  classical
  induction (Finset.univ : Finset α) using Finset.induction_on with
  | empty => simp
  | insert a s h ih => rw [Finset.sum_insert h, Finset.sum_insert h, ih, EReal.coe_add]

/-- The rapidity. -/
theorem rap_real {pz e : ℝ} (h : 0 < rarg pz e) :
    Ideal.ofBits .f32 0x3F000000#32 * Ideal.log (1 + Ideal.div (Ideal.ofBits .f32 0x40000000#32 * (pz : EReal))
      (max ((e : EReal) - (pz : EReal)) (Ideal.ofBits .f32 0x1E3CE508#32))) = ((rap pz e : ℝ) : EReal) := by
  have hm : (max (e - pz) c20 : ℝ) ≠ 0 := (lt_of_lt_of_le c20_pos (le_max_right _ _)).ne'
  rw [lit_half, lit_two, lit_c20, ← EReal.coe_mul, ← EReal.coe_sub, max_real, div_real _ hm, ← EReal.coe_one,
    ← EReal.coe_add, show (1 + 2 * pz / max (e - pz) c20) = rarg pz e from rfl, log_real h, ← EReal.coe_mul]
  rfl

/-- The distance of two particles with its logarithm, from the reduced angle difference. -/
theorem lnd_tail (dr w : ℝ) :
    Ideal.log (max (Ideal.sqrt ((dr : EReal) * (dr : EReal) + (w : EReal) * (w : EReal))) (Ideal.ofBits .f32 0x322BCC77#32))
      = ((Real.log (max (Real.sqrt (dr * dr + w * w)) c8) : ℝ) : EReal) := by
  rw [← EReal.coe_mul, ← EReal.coe_mul, ← EReal.coe_add, sqrt_real (add_nonneg (mul_self_nonneg _) (mul_self_nonneg _)), lit_c8,
    max_real, log_real (lt_of_lt_of_le c8_pos (le_max_right _ _))]

/-- The reduced angle difference, as the kernel computes it. -/
theorem wrap_real (d : ℝ) :
    ((d : EReal) + Ideal.ofBits .f32 0x40490FDB#32) - Ideal.ofBits .f32 0x40C90FDB#32
        * Ideal.liftRound Int.floor (Ideal.div ((d : EReal) + Ideal.ofBits .f32 0x40490FDB#32) (Ideal.ofBits .f32 0x40C90FDB#32))
      - Ideal.ofBits .f32 0x40490FDB#32 = ((wrap d : ℝ) : EReal) := by
  rw [lit_pi, lit_tau, ← EReal.coe_add, div_real _ ctau_pos.ne', floor_real, ← EReal.coe_mul, ← EReal.coe_sub, ← EReal.coe_sub]
  rfl

/-- The squared mass of two particles with its logarithm. -/
theorem lnm_real (x y z e : ℝ) :
    Ideal.log (max ((e : EReal) * (e : EReal) - (((x : EReal) * (x : EReal) + (y : EReal) * (y : EReal)) + (z : EReal) * (z : EReal)))
      (Ideal.ofBits .f32 0x322BCC77#32)) = ((lnm x y z e : ℝ) : EReal) := by
  simp only [← EReal.coe_mul, ← EReal.coe_add, ← EReal.coe_sub, lit_c8, max_real]
  rw [log_real (lt_of_lt_of_le c8_pos (le_max_right _ _))]
  rfl

/-- The remainder that takes the sign of the divisor, as the reference computes it from the one that takes the
    sign of the dividend: for a positive divisor it is the distance to the multiple below. -/
theorem mod_real (x : ℝ) {y : ℝ} (hy : 0 < y) :
    (if x - y * Ideal.truncInt (x / y) < 0 then x - y * Ideal.truncInt (x / y) + y else x - y * Ideal.truncInt (x / y))
      = x - y * (⌊x / y⌋ : ℝ) := by
  unfold Ideal.truncInt
  by_cases h : 0 ≤ x / y
  · rw [if_pos h, if_neg]
    have := Int.floor_le (x / y)
    rw [le_div_iff₀ hy] at this
    nlinarith
  · rw [if_neg h]
    have hx : x = y * (x / y) := by field_simp
    by_cases hi : (⌈x / y⌉ : ℝ) = x / y
    · have hf : (⌊x / y⌋ : ℝ) = x / y := by rw [← hi]; simp
      rw [hi, hf, if_neg]
      linarith
    · have h1 := Int.le_ceil (x / y)
      have h2 : x / y < ⌈x / y⌉ := lt_of_le_of_ne h1 (Ne.symm hi)
      have h3 := Int.ceil_lt_add_one (x / y)
      have hfl : ⌊x / y⌋ = ⌈x / y⌉ - 1 := by
        rw [Int.floor_eq_iff]; push_cast; constructor <;> linarith
      rw [hfl, if_pos]
      · push_cast; ring
      · nlinarith

/-- The comparison of two indices below 128, as words, is the comparison of the indices. -/
theorem cmp_le : ∀ r c : Fin 128, IntOp.cmpi CmpIPredicate.sle (BitVec.ofNat 32 c.val) (BitVec.ofNat 32 r.val)
    = if c ≤ r then 1#1 else 0#1 := by
  decide +kernel

/-- The lower triangle's indicator, as the kernel computes it. -/
theorem mask_real (r c : Fin 128) :
    FloatOps.sitofp (F := Ideal) FTy.f32 (BitVec.setWidth 32 (IntOp.cmpi CmpIPredicate.sle (BitVec.ofNat 32 c.val) (BitVec.ofNat 32 r.val)))
      = ((if c ≤ r then (1 : ℝ) else 0 : ℝ) : EReal) := by
  rw [cmp_le]
  split
  · exact congrArg (fun z : ℝ => (z : EReal)) (by norm_num : ((((BitVec.setWidth 32 1#1).toInt : ℤ) : ℝ)) = 1)
  · exact congrArg (fun z : ℝ => (z : EReal)) (by norm_num : ((((BitVec.setWidth 32 0#1).toInt : ℤ) : ℝ)) = 0)

end Pairs
-- ==== Proof.Lit.lean ====
/- The two index tables of the lower triangle: entry `r(r+1)/2 + c` is row `r`, column `c`. -/
module

public import proofs.«01_k».proof.ReferenceIdeal

@[expose] public section

namespace Cert.ReferenceIdeal.Lit

open Cert.ReferenceIdeal Idealize.ShloMosaic

set_option maxRecDepth 100000 in
/-- Row by row, the first table of indices holds the row of each pair and the second its column. -/
theorem tab (r : Fin 128) : ∀ c : Fin 128, c.val ≤ r.val → lit0t (r.val * (r.val + 1) / 2 + c.val) = BitVec.ofNat 32 r.val
   ∧ lit1t (r.val * (r.val + 1) / 2 + c.val) = BitVec.ofNat 32 c.val := by
  revert r
  decide +kernel

end Cert.ReferenceIdeal.Lit

end
-- ==== Proof.Tri.lean ====
/- The lower triangle's positions in the order of the index tables, and how the programs read and write by them. -/
module

public import proofs.«01_k».proof.Proof.Lit
public import proofs.«01_k».proof.Proof.Model
public import Idealize.ShloMosaic.Lib.Routing.OpsSet
public import Idealize.ShloMosaic.Lib.Pointwise

@[expose] public section

noncomputable section

namespace Pairs

open Idealize.ShloMosaic Cert.ReferenceIdeal

/-- A position of the lower triangle. -/
abbrev Low : Type := {q : Fin 128 × Fin 128 // q.2 ≤ q.1}

/-- Its number in the tables. -/
def code (q : Low) : ℕ := q.1.1.val * (q.1.1.val + 1) / 2 + q.1.2.val

/-- It is below the tables' length. -/
theorem code_lt (q : Low) : code q < 8256 := by
  obtain ⟨⟨r, c⟩, h⟩ := q
  have h1 : c.val ≤ r.val := h
  have h2 := r.isLt
  have h3 : r.val * (r.val + 1) ≤ 127 * 128 := Nat.mul_le_mul (by omega) (by omega)
  unfold code
  dsimp only
  omega

/-- The tables at a position's number hold its row and its column. -/
theorem code_tab (q : Low) : lit0t (code q) = BitVec.ofNat 32 q.1.1.val ∧ lit1t (code q) = BitVec.ofNat 32 q.1.2.val :=
  Lit.tab q.1.1 q.1.2 q.2

/-- Small numbers with the same word are the same. -/
theorem small_inj {a b : Fin 128} (h : BitVec.ofNat 32 a.val = BitVec.ofNat 32 b.val) : a = b := by
  have e := congrArg BitVec.toNat h
  simp only [BitVec.toNat_ofNat] at e
  exact Fin.ext (by have := a.isLt; have := b.isLt; omega)

/-- The lower triangle and the positions of the tables are the same set. -/
theorem code_bij : Function.Bijective fun q : Low => (⟨code q, code_lt q⟩ : Fin 8256) := by
  refine (Fintype.bijective_iff_injective_and_card _).2 ⟨fun q q' h => ?_, ?_⟩
  · have h : code q = code q' := congrArg Fin.val h
    have e0 := (code_tab q).1.symm.trans ((congrArg lit0t h).trans (code_tab q').1)
    have e1 := (code_tab q).2.symm.trans ((congrArg lit1t h).trans (code_tab q').2)
    exact Subtype.ext (Prod.ext (small_inj e0) (small_inj e1))
  · rw [Fintype.card_subtype, Fintype.card_fin]
    have e : (Finset.univ.filter fun q : Fin 128 × Fin 128 => q.2 ≤ q.1).card = ∑ r : Fin 128, ∑ c : Fin 128, (if c ≤ r then (1 : ℕ) else 0) := by
      rw [Finset.card_filter, Fintype.sum_prod_type]
    rw [e, card_tri]

/-- The positions, numbered. -/
def low : Low ≃ Fin 8256 := Equiv.ofBijective _ code_bij

/-- The row of a position of the tables. -/
def ii (p : Fin 8256) : Fin 128 := (low.symm p).1.1
/-- Its column. -/
def jj (p : Fin 8256) : Fin 128 := (low.symm p).1.2

/-- A table position is its triangle position's number. -/
theorem code_low (p : Fin 8256) : code (low.symm p) = p.val := congrArg Fin.val (low.apply_symm_apply p)

/-- The first table holds the rows. -/
theorem lit0_at (p : Fin 8256) : lit0 p = BitVec.ofNat 32 (ii p).val :=
  (congrArg lit0t (code_low p).symm).trans (code_tab (low.symm p)).1

/-- The second table holds the columns. -/
theorem lit1_at (p : Fin 8256) : lit1 p = BitVec.ofNat 32 (jj p).val :=
  (congrArg lit1t (code_low p).symm).trans (code_tab (low.symm p)).2

/-- Every position of the lower triangle is in the tables. -/
theorem exists_pos {r c : Fin 128} (h : c ≤ r) : ∃ p, ii p = r ∧ jj p = c :=
  ⟨low ⟨(r, c), h⟩, by unfold ii; rw [Equiv.symm_apply_apply], by unfold jj; rw [Equiv.symm_apply_apply]⟩

/-- A table position's column is at most its row. -/
theorem jj_le (p : Fin 8256) : jj p ≤ ii p := (low.symm p).2

/-- A sum over the batch and the positions is the sum over the lower triangle. -/
theorem sum_low (f : Grid) : ∑ b, ∑ p, f b (ii p) (jj p) = tsum f := by
  unfold tsum
  refine Finset.sum_congr rfl fun b _ => ?_
  rw [← Equiv.sum_comp low]
  simp only [ii, jj, Equiv.symm_apply_apply]
  rw [← Fintype.sum_prod_type' (f := fun r c => if c ≤ r then f b r c else 0), ← Finset.sum_filter]
  exact (Finset.sum_subtype _ (fun q => by simp) (fun q : Fin 128 × Fin 128 => f b q.1 q.2)).symm

/-! ## Reading and writing by the tables -/

/-- A small number read back from its word. -/
theorem word_int (r : Fin 128) : (BitVec.ofNat 32 r.val).toInt = (r.val : ℤ) := by
  have := r.isLt
  rw [BitVec.toInt_eq_toNat_of_lt (by simp only [BitVec.toNat_ofNat]; omega), BitVec.toNat_ofNat]
  omega

section

variable [Facts₀]

/-- The gather's dimensions. -/
abbrev gat := gather_S32x4x128_S8256x1_S32x4x8256_01_2_n_n_2_1_3241
/-- The scatter's dimensions. -/
abbrev sca := scatter_S32x64x128x128_S8256x2_S32x64x8256_01_23_23_1

/-- A column gathered by a table of small numbers. -/
theorem gather_at {α : Type} (x : S32x4x128.Idx → α) (idx : IVec S8256x1 32) (b : Fin 32) (k : Fin 4) (p : Fin 8256) (r : Fin 128)
    (h : idx (ix2 p 0) = BitVec.ofNat 32 r.val) :
    Host.gather gat x idx (ix3 b k p) = x (ix3 b k r) := by
  unfold Host.gather
  refine congrArg x (funext fun a => Fin.ext ?_)
  have hb : a ∉ gat.operandBatchingDims := by show a ∉ []; simp
  simp only [GatherDims.operandIdx, GatherDims.batchCoord_eq_zero _ _ _ hb, Nat.add_zero]
  match a with
  | ⟨0, _⟩ =>
    have h0 : gat.start (ix3 b k p) idx 0 = 0 := by
      unfold GatherDims.start; exact dif_neg (show ¬ (0 : Fin 3) ∈ [(2 : Fin 3)] by decide)
    have h1 : gat.offCoord (ix3 b k p) 0 = b.val := by
      unfold GatherDims.offCoord; exact (dif_pos (show (0 : Fin 3) ∈ S32x4x128.kept ([2] ++ []) by decide)).trans rfl
    exact (congrArg₂ (· + ·) h0 h1).trans (Nat.zero_add _)
  | ⟨1, _⟩ =>
    have h0 : gat.start (ix3 b k p) idx 1 = 0 := by
      unfold GatherDims.start; exact dif_neg (show ¬ (1 : Fin 3) ∈ [(2 : Fin 3)] by decide)
    have h1 : gat.offCoord (ix3 b k p) 1 = k.val := by
      unfold GatherDims.offCoord; exact (dif_pos (show (1 : Fin 3) ∈ S32x4x128.kept ([2] ++ []) by decide)).trans rfl
    exact (congrArg₂ (· + ·) h0 h1).trans (Nat.zero_add _)
  | ⟨2, _⟩ =>
    have h0 : gat.start (ix3 b k p) idx 2 = r.val := by
      unfold GatherDims.start
      refine (dif_pos (show (2 : Fin 3) ∈ [(2 : Fin 3)] by decide)).trans ?_
      have e : gat.siIdx (ix3 b k p) ⟨gat.startIndexMap.idxOf 2, List.idxOf_lt_length_iff.2 (show (2 : Fin 3) ∈ [(2 : Fin 3)] by decide)⟩ = ix2 p 0 := by
        funext a
        match a with
        | ⟨0, _⟩ => rfl
        | ⟨1, _⟩ => rfl
      rw [e, h, word_int]
      show min r.val 127 = r.val
      have := r.isLt
      omega
    have h1 : gat.offCoord (ix3 b k p) 2 = 0 := by
      unfold GatherDims.offCoord; exact dif_neg (show ¬ (2 : Fin 3) ∈ S32x4x128.kept ([2] ++ []) by decide)
    exact (congrArg₂ (· + ·) h0 h1).trans (Nat.add_zero _)

/-- Where an update of the scatter lands. -/
theorem lands (idx : IVec S8256x2 32) (b' b : Fin 32) (o' o : Fin 64) (p : Fin 8256) (r c i j : Fin 128)
    (h0 : idx (ix2 p 0) = BitVec.ofNat 32 i.val) (h1 : idx (ix2 p 1) = BitVec.ofNat 32 j.val) :
    sca.resultIdx? (ix3 b' o' p) idx = some (ix4 b o r c) ↔ b' = b ∧ o' = o ∧ i = r ∧ j = c := by
  have s0 : sca.start (ix3 b' o' p) idx 0 = 0 := by
    unfold ScatterDims.start; exact dif_neg (show ¬ (0 : Fin 4) ∈ [(2 : Fin 4), 3] by decide)
  have s1 : sca.start (ix3 b' o' p) idx 1 = 0 := by
    unfold ScatterDims.start; exact dif_neg (show ¬ (1 : Fin 4) ∈ [(2 : Fin 4), 3] by decide)
  have s2 : sca.start (ix3 b' o' p) idx 2 = i.val := by
    unfold ScatterDims.start
    refine (dif_pos (show (2 : Fin 4) ∈ [(2 : Fin 4), 3] by decide)).trans ?_
    have e : sca.siIdx (ix3 b' o' p) ⟨sca.scatterDimsToOperandDims.idxOf 2, List.idxOf_lt_length_iff.2 (show (2 : Fin 4) ∈ [(2 : Fin 4), 3] by decide)⟩ = ix2 p 0 := by
      funext a
      match a with
      | ⟨0, _⟩ => rfl
      | ⟨1, _⟩ => rfl
    rw [e, h0, word_int]
  have s3 : sca.start (ix3 b' o' p) idx 3 = j.val := by
    unfold ScatterDims.start
    refine (dif_pos (show (3 : Fin 4) ∈ [(2 : Fin 4), 3] by decide)).trans ?_
    have e : sca.siIdx (ix3 b' o' p) ⟨sca.scatterDimsToOperandDims.idxOf 3, List.idxOf_lt_length_iff.2 (show (3 : Fin 4) ∈ [(2 : Fin 4), 3] by decide)⟩ = ix2 p 1 := by
      funext a
      match a with
      | ⟨0, _⟩ => rfl
      | ⟨1, _⟩ => rfl
    rw [e, h1, word_int]
  have w0 : sca.window (ix3 b' o' p) 0 = b'.val := by
    unfold ScatterDims.window; exact (dif_pos (show (0 : Fin 4) ∈ S32x64x128x128.kept [2, 3] by decide)).trans rfl
  have w1 : sca.window (ix3 b' o' p) 1 = o'.val := by
    unfold ScatterDims.window; exact (dif_pos (show (1 : Fin 4) ∈ S32x64x128x128.kept [2, 3] by decide)).trans rfl
  have w2 : sca.window (ix3 b' o' p) 2 = 0 := by
    unfold ScatterDims.window; exact dif_neg (show ¬ (2 : Fin 4) ∈ S32x64x128x128.kept [2, 3] by decide)
  have w3 : sca.window (ix3 b' o' p) 3 = 0 := by
    unfold ScatterDims.window; exact dif_neg (show ¬ (3 : Fin 4) ∈ S32x64x128x128.kept [2, 3] by decide)
  rw [Routing.resultIdx?_eq_some]
  constructor
  · intro H
    have e0 := H 0
    have e1 := H 1
    have e2 := H 2
    have e3 := H 3
    rw [s0, w0] at e0
    rw [s1, w1] at e1
    rw [s2, w2] at e2
    rw [s3, w3] at e3
    have e0 : (0 : ℤ) + (b'.val : ℤ) = (b.val : ℤ) := e0
    have e1 : (0 : ℤ) + (o'.val : ℤ) = (o.val : ℤ) := e1
    have e2 : (i.val : ℤ) + ((0 : ℕ) : ℤ) = (r.val : ℤ) := e2
    have e3 : (j.val : ℤ) + ((0 : ℕ) : ℤ) = (c.val : ℤ) := e3
    exact ⟨Fin.ext (by omega), Fin.ext (by omega), Fin.ext (by omega), Fin.ext (by omega)⟩
  · rintro ⟨rfl, rfl, rfl, rfl⟩ a
    match a with
    | ⟨0, _⟩ => exact (congrArg₂ (fun (u : ℤ) (v : ℕ) => u + (v : ℤ)) s0 w0).trans (Int.zero_add _)
    | ⟨1, _⟩ => exact (congrArg₂ (fun (u : ℤ) (v : ℕ) => u + (v : ℤ)) s1 w1).trans (Int.zero_add _)
    | ⟨2, _⟩ => exact (congrArg₂ (fun (u : ℤ) (v : ℕ) => u + (v : ℤ)) s2 w2).trans (Int.add_zero _)
    | ⟨3, _⟩ => exact (congrArg₂ (fun (u : ℤ) (v : ℕ) => u + (v : ℤ)) s3 w3).trans (Int.add_zero _)

/-- A pair of scatters, at the positions and at the positions swapped, fills a symmetric array. -/
theorem scatter_both {α : Type} (x0 : S32x64x128x128.Idx → α) (ij ji : IVec S8256x2 32) (upd : S32x64x8256.Idx → α)
    (i0 : ∀ p, ij (ix2 p 0) = BitVec.ofNat 32 (ii p).val) (i1 : ∀ p, ij (ix2 p 1) = BitVec.ofNat 32 (jj p).val)
    (j0 : ∀ p, ji (ix2 p 0) = BitVec.ofNat 32 (jj p).val) (j1 : ∀ p, ji (ix2 p 1) = BitVec.ofNat 32 (ii p).val)
    (f : Fin 32 → Fin 64 → Fin 128 → Fin 128 → α) (hf : ∀ b o r c, f b o r c = f b o c r)
    (hu : ∀ b o p, upd (ix3 b o p) = f b o (ii p) (jj p)) (b : Fin 32) (o : Fin 64) (r c : Fin 128) :
    Host.scatter sca (fun _ b => b) (Host.scatter sca (fun _ b => b) x0 ij upd) ji upd (ix4 b o r c) = f b o r c := by
  by_cases h : r ≤ c
  · obtain ⟨p, hp, hq⟩ := exists_pos h
    refine Routing.scatter_set_hit sca _ ji upd _ _ (fun k hk => ?_) (ix3 b o p)
      ((lands ji b b o o p r c (jj p) (ii p) (j0 p) (j1 p)).2 ⟨rfl, rfl, hq, hp⟩)
    obtain ⟨b', o', p', rfl⟩ : ∃ b' o' p', k = ix3 b' o' p' := ⟨_, _, _, (ix3_eta k).symm⟩
    obtain ⟨e0, e1, e2, e3⟩ := (lands ji _ b _ o _ r c _ _ (j0 _) (j1 _)).1 hk
    rw [hu, e0, e1, e2, e3]
    exact hf _ _ _ _
  · have h' : c ≤ r := le_of_lt (not_le.1 h)
    rw [Routing.scatter_set_miss sca _ ji upd _ (fun k hk => ?_)]
    · obtain ⟨p, hp, hq⟩ := exists_pos h'
      refine Routing.scatter_set_hit sca _ ij upd _ _ (fun k hk => ?_) (ix3 b o p)
        ((lands ij b b o o p r c (ii p) (jj p) (i0 p) (i1 p)).2 ⟨rfl, rfl, hp, hq⟩)
      obtain ⟨b', o', p', rfl⟩ : ∃ b' o' p', k = ix3 b' o' p' := ⟨_, _, _, (ix3_eta k).symm⟩
      obtain ⟨e0, e1, e2, e3⟩ := (lands ij _ b _ o _ r c _ _ (i0 _) (i1 _)).1 hk
      rw [hu, e0, e1, e2, e3]
    · obtain ⟨b', o', p', rfl⟩ : ∃ b' o' p', k = ix3 b' o' p' := ⟨_, _, _, (ix3_eta k).symm⟩
      obtain ⟨e0, e1, e2, e3⟩ := (lands ji _ b _ o _ r c _ _ (j0 _) (j1 _)).1 hk
      exact h (e2 ▸ e3 ▸ jj_le _)

end

end Pairs

end
-- ==== Proof.RefFeat.lean ====
/- The reference's gathered particles and its two pair features, read at a position of the tables. -/
module

public import proofs.«01_k».proof.Proof.Gen.ReferenceIdeal.Run
public import proofs.«01_k».proof.Proof.Coe
public import proofs.«01_k».proof.Proof.Tri
public import Idealize.ShloMosaic.Lib.Routing.OpsPair

@[expose] public section

set_option maxRecDepth 8192

noncomputable section

namespace Cert.ReferenceIdeal.Value

open Idealize.ShloMosaic Idealize.ShloMosaic.TcCoe Cert.ReferenceIdeal Cert.ReferenceIdeal.Gen Pairs

variable (V : Valuation τ sig (Elt Ideal))

/-- The positions' rows. -/
theorem tab_i (p : Fin 8256) : res_main_c V (ix1 p) = BitVec.ofNat 32 (ii p).val := by
  refine Eq.trans ?_ (lit0_at p)
  exact congrArg lit0 (Fin.ext (Shape.rowMajor_val_one _))

/-- The positions' columns. -/
theorem tab_j (p : Fin 8256) : res_main_c_0 V (ix1 p) = BitVec.ofNat 32 (jj p).val := by
  refine Eq.trans ?_ (lit1_at p)
  exact congrArg lit1 (Fin.ext (Shape.rowMajor_val_one _))

/-- A table with its negative entries wrapped, as a column. -/
def wrapped (n : BitVec 32) (t : IVec S8256 32) : IVec S8256x1 32 :=
  broadcastInDim S8256x1 ![0] bcast_S8256_S8256x1_0 (select (cmpi .slt t (broadcastInDim S8256 ![] bcast_S_S8256 (constantI S_ 32 0#32)))
    (addi t (broadcastInDim S8256 ![] bcast_S_S8256 (constantI S_ 32 n))) t)

/-- A table of small numbers has no negative entries. -/
theorem wrapped_at (n : BitVec 32) {t : IVec S8256 32} {f : Fin 8256 → Fin 128} (h : ∀ p, t (ix1 p) = BitVec.ofNat 32 (f p).val) (p : Fin 8256) (k : Fin 1) :
    wrapped n t (ix2 p k) = BitVec.ofNat 32 (f p).val := by
  pointwise [wrapped]
  rw [h]
  refine Routing.wrap_of_lt _ _ ?_
  have := (f p).isLt
  simp only [BitVec.toNat_ofNat]
  omega

/-- A scalar literal of a called function's argument. -/
theorem arg_lit (b : BitVec 32) : id (constant (F := Ideal) S_ FTy.f32 b) ix0 = Ideal.ofBits FTy.f32 b := rfl

/-- The choice that turns the remainder into the one with the divisor's sign. -/
theorem sign_real (r : ℝ) {t : ℝ} (ht : 0 < t) :
    Scalar.select (IntOp.andi (IntOp.cmpi CmpIPredicate.ne (BitVec.ofBool (decide ((r : EReal) < 0))) (BitVec.ofBool (decide ((t : EReal) < 0))))
      (BitVec.ofBool (decide ((r : EReal) ≠ 0)))) ((r : EReal) + (t : EReal)) (r : EReal) = ((if r < 0 then r + t else r : ℝ) : EReal) := by
  have h0 : ¬ (t : EReal) < 0 := not_lt.2 (EReal.coe_nonneg.2 ht.le)
  by_cases h : r < 0
  · have h1 : (r : EReal) < 0 := EReal.coe_neg'.2 h
    rw [decide_eq_true h1, decide_eq_false h0, decide_eq_true h1.ne, if_pos h, EReal.coe_add]
    rfl
  · have h1 : ¬ (r : EReal) < 0 := fun e => h (EReal.coe_neg'.1 e)
    rw [decide_eq_false h1, decide_eq_false h0, if_neg h]
    cases decide ((r : EReal) ≠ 0) <;> rfl

variable {x : Fin 32 → Fin 4 → Fin 128 → ℝ}

section
variable (hx : ∀ b k s, (V (Proc.devRef .tc main_arg0) : FVec Ideal S32x4x128 .f32) (ix3 b k s) = ((x b k s : ℝ) : EReal))
include hx

/-- The particle of the position's row. -/
theorem v6_at (b : Fin 32) (k : Fin 4) (p : Fin 8256) : (res_main_v6 V : FVec Ideal S32x4x8256 .f32) (ix3 b k p) = ((x b k (ii p) : ℝ) : EReal) :=
  (gather_at _ (wrapped 128#32 (res_main_c V)) b k p (ii p) (wrapped_at _ (tab_i V) p 0)).trans (hx b k (ii p))

/-- The particle of the position's column. -/
theorem v13_at (b : Fin 32) (k : Fin 4) (p : Fin 8256) : (res_main_v13 V : FVec Ideal S32x4x8256 .f32) (ix3 b k p) = ((x b k (jj p) : ℝ) : EReal) :=
  (gather_at _ (wrapped 128#32 (res_main_c_0 V)) b k p (jj p) (wrapped_at _ (tab_j V) p 0)).trans (hx b k (jj p))

/-- The rapidity difference. -/
theorem v66_at (hr : ∀ b c, 0 < rarg (x b 2 c) (x b 3 c)) (b : Fin 32) (p : Fin 8256) : (res_main_v66 V : FVec Ideal S32x8256 .f32) (ix2 b p)
    = ((rap (x b 2 (ii p)) (x b 3 (ii p)) - rap (x b 2 (jj p)) (x b 3 (jj p)) : ℝ) : EReal) := by
  pointwise [res_main_v66, res_main_v19, res_main_v42]
  simp only [v6_at V hx, v13_at V hx, arg_lit]
  rw [max_comm, max_comm (Ideal.ofBits FTy.f32 507307272#32)]
  rw [rap_real (hr b _), rap_real (hr b _), ← EReal.coe_sub]

/-- The remainder of the angle difference. -/
theorem mod_at (b : Fin 32) (p : Fin 8256) : (res_main_call2_v2 V : FVec Ideal S32x8256 .f32) (ix2 b p)
    = ((let d := ang (x b 1 (ii p)) (x b 0 (ii p)) - ang (x b 1 (jj p)) (x b 0 (jj p)) + cpi; d - ctau * Ideal.truncInt (d / ctau) : ℝ) : EReal) := by
  pointwise [res_main_call2_v2, res_main_v17, res_main_v15, res_main_v40, res_main_v38, res_main_call2_v0]
  simp only [v6_at V hx, v13_at V hx, atan2_real]
  refine (congrArg (Ideal.remf _) ((arg_lit _).trans lit_tau)).trans ?_
  rw [lit_pi, ← EReal.coe_sub, ← EReal.coe_add, Ideal.remf_coe, if_neg ctau_pos.ne']

/-- The reduced angle difference. -/
theorem v65_at (b : Fin 32) (p : Fin 8256) : (res_main_v65 V : FVec Ideal S32x8256 .f32) (ix2 b p)
    = ((wrap (ang (x b 1 (ii p)) (x b 0 (ii p)) - ang (x b 1 (jj p)) (x b 0 (jj p))) : ℝ) : EReal) := by
  pointwise [res_main_v65, res_main_call2_v0]
  rw [mod_at V hx, arg_lit, lit_tau, lit_pi, sign_real _ ctau_pos, mod_real _ ctau_pos, ← EReal.coe_sub]
  rfl

/-- The two features. -/
theorem v93_at (hr : ∀ b c, 0 < rarg (x b 2 c) (x b 3 c)) (b : Fin 32) (i : Fin 2) (p : Fin 8256) : (res_main_v93 V : FVec Ideal S32x2x8256 .f32) (ix3 b i p)
    = ((feat x i b (ii p) (jj p) : ℝ) : EReal) := by
  match i with
  | 0 =>
    pointwise [res_main_v93]
    rw [arg_lit, max_comm, v66_at V hx hr, v65_at V hx, lnd_tail]
    rfl
  | 1 =>
    pointwise [res_main_v93, res_main_v75, res_main_v78, res_main_v81, res_main_v85, res_main_v73]
    simp only [v6_at V hx, v13_at V hx, arg_lit, ← EReal.coe_add]
    rw [max_comm]
    exact lnm_real _ _ _ _

end

end Cert.ReferenceIdeal.Value

end
-- ==== Proof.Outer.lean ====
/- A host sum over the first and the last axis of a three-axis array. -/
module

public import Idealize.ShloMosaic.Lib.Pointwise

@[expose] public section

namespace Pairs

open Idealize.ShloMosaic

variable {n0 n1 n2 : ℕ}

/-- The positions summed into entry `o` are those with middle coordinate `o`. -/
theorem outer_fiber (h : (⟨3, ![n0, n1, n2]⟩ : Shape).ReducesTo [0, 2] ⟨1, ![n1]⟩) (o : Fin n1) (i : (⟨3, ![n0, n1, n2]⟩ : Shape).Idx) :
    h.drop i = ix1 o ↔ ∃ k : Fin n0 × Fin n2, ix3 k.1 o k.2 = i := by
  constructor
  · intro e
    have e1 : i 1 = o := congrFun e 0
    exact ⟨(i 0, i 2), by rw [← e1]; exact (eq_ix3 i).symm⟩
  · rintro ⟨k, rfl⟩
    funext b
    have hb : b = 0 := Subsingleton.elim (α := Fin 1) b 0
    subst hb
    rfl

/-- The sum at entry `o`. -/
theorem outer_sum (h : (⟨3, ![n0, n1, n2]⟩ : Shape).ReducesTo [0, 2] ⟨1, ![n1]⟩) (v : (⟨3, ![n0, n1, n2]⟩ : Shape).Idx → EReal) (o : Fin n1) :
    Ideal.hostReduceAdd h v 0 (ix1 o) = ∑ b : Fin n0, ∑ r : Fin n2, v (ix3 b o r) := by
  unfold Ideal.hostReduceAdd
  rw [zero_add, Finset.sum_filter_eq_sum_of_fiber _ (fun k : Fin n0 × Fin n2 => ix3 k.1 o k.2)
    (fun _ _ e => Prod.ext (congrFun e 0) (congrFun e 2)) (outer_fiber h o) v]
  simp only [Fintype.sum_prod_type]

end Pairs
-- ==== Proof.RefNorm.lean ====
/- The reference's batch normalization, at real numbers: over the positions of the tables it is the one over the lower triangle. -/
module

public import proofs.«01_k».proof.Proof.Gen.ReferenceIdeal.Run
public import proofs.«01_k».proof.Proof.Coe
public import proofs.«01_k».proof.Proof.Outer
public import proofs.«01_k».proof.Proof.Tri

@[expose] public section

noncomputable section

namespace Cert.ReferenceIdeal.Value

open Idealize.ShloMosaic Cert.ReferenceIdeal Cert.ReferenceIdeal.Gen Pairs

/-- How many values a mean is over, as the variance computes it. -/
def rCount : FVec Ideal S_ .f32 := subf (constant S_ .f32 0x48810000#32) (sitofp .f32 (constantI S_ 32 0#32))

/-- It is the number of pairs. -/
theorem rCount_at (j : S_.Idx) : rCount j = ((cn : ℝ) : EReal) := by
  have e : FloatOps.sitofp (F := Ideal) FTy.f32 (0#32 : BitVec 32) = ((0 : ℝ) : EReal) :=
    congrArg (fun z : ℝ => (z : EReal)) (by norm_num : ((((0#32 : BitVec 32).toInt : ℤ) : ℝ)) = 0)
  show Ideal.ofBits .f32 0x48810000#32 - FloatOps.sitofp (F := Ideal) FTy.f32 (0#32 : BitVec 32) = _
  rw [e, lit_n, ← EReal.coe_sub, sub_zero]

/-- The number of pairs is positive. -/
theorem count_pos : (0 : EReal) < ((cn : ℝ) : EReal) := EReal.coe_pos.2 cn_pos

section
variable {f : Fin 2 → Grid} {Z : FVec Ideal S32x2x8256 .f32}

/-- The mean over the batch and the pairs. -/
def rMean2 (Z : FVec Ideal S32x2x8256 .f32) : FVec Ideal S1x2x1 .f32 :=
  Host.divf (broadcastInDim S1x2x1 ![1] bcast_S2_S1x2x1_1 (Host.reduceAdd Z (constant S_ .f32 0x00000000#32) reducesTo_S32x2x8256_S2_d0_2 h_S_))
    (broadcastInDim S1x2x1 ![] bcast_S_S1x2x1 (constant S_ .f32 0x48810000#32))

/-- The distance to the mean. -/
def rDev2 (Z : FVec Ideal S32x2x8256 .f32) : FVec Ideal S32x2x8256 .f32 :=
  subf Z (broadcastInDim S32x2x8256 ![0, 1, 2] bcast_S1x2x1_S32x2x8256_0_1_2 (rMean2 Z))

/-- The standard deviation. -/
def rSd2 (Z : FVec Ideal S32x2x8256 .f32) : FVec Ideal S1x2x1 .f32 :=
  Host.sqrt (addf (select (broadcastInDim S1x2x1 ![] bcast_S_S1x2x1 (cmpf .ogt rCount (constant S_ .f32 0x00000000#32)))
    (Host.divf (broadcastInDim S1x2x1 ![1] bcast_S2_S1x2x1_1 (Host.reduceAdd (mulf (rDev2 Z) (rDev2 Z)) (constant S_ .f32 0x00000000#32) reducesTo_S32x2x8256_S2_d0_2 h_S_))
      (broadcastInDim S1x2x1 ![] bcast_S_S1x2x1 rCount))
    (broadcastInDim S1x2x1 ![] bcast_S_S1x2x1 (id (constant S_ .f32 0x7FC00000#32)))) (broadcastInDim S1x2x1 ![] bcast_S_S1x2x1 (constant S_ .f32 0x3727C5AC#32)))

/-- The normalized array before its shift. -/
def rScaled2 (Z : FVec Ideal S32x2x8256 .f32) (g : FVec Ideal S2 .f32) : FVec Ideal S32x2x8256 .f32 :=
  mulf (Host.divf (rDev2 Z) (broadcastInDim S32x2x8256 ![0, 1, 2] bcast_S1x2x1_S32x2x8256_0_1_2 (rSd2 Z)))
    (broadcastInDim S32x2x8256 ![0, 1, 2] bcast_S1x2x1_S32x2x8256_0_1_2 (broadcastInDim S1x2x1 ![1] bcast_S2_S1x2x1_1 g))

/-- The normalized array. -/
def rBn2 (Z : FVec Ideal S32x2x8256 .f32) (g be : FVec Ideal S2 .f32) : FVec Ideal S32x2x8256 .f32 :=
  addf (rScaled2 Z g) (broadcastInDim S32x2x8256 ![0, 1, 2] bcast_S1x2x1_S32x2x8256_0_1_2 (broadcastInDim S1x2x1 ![1] bcast_S2_S1x2x1_1 be))

/-- The mean is the mean over the lower triangle. -/
theorem rMean2_at (hZ : ∀ b i p, Z (ix3 b i p) = ((f i b (ii p) (jj p) : ℝ) : EReal)) (a c : Fin 1) (i : Fin 2) :
    rMean2 Z (ix3 a i c) = ((mean (f i) : ℝ) : EReal) := by
  pointwise [rMean2]
  rw [outer_sum]
  simp only [hZ, sum_real, sum_low, lit_n]
  exact div_real _ cn_pos.ne'

/-- The distance to the mean at a position. -/
theorem rDev2_at (hZ : ∀ b i p, Z (ix3 b i p) = ((f i b (ii p) (jj p) : ℝ) : EReal)) (b : Fin 32) (i : Fin 2) (p : Fin 8256) :
    rDev2 Z (ix3 b i p) = ((f i b (ii p) (jj p) - mean (f i) : ℝ) : EReal) := by
  pointwise [rDev2]
  rw [rMean2_at hZ, hZ, ← EReal.coe_sub]

/-- The standard deviation is the one over the lower triangle. -/
theorem rSd2_at (hZ : ∀ b i p, Z (ix3 b i p) = ((f i b (ii p) (jj p) : ℝ) : EReal)) (a c : Fin 1) (i : Fin 2) :
    rSd2 Z (ix3 a i c) = ((Real.sqrt (var (f i) + ceps) : ℝ) : EReal) := by
  pointwise [rSd2]
  have hs : ∀ b p, mulf (rDev2 Z) (rDev2 Z) (ix3 b i p)
      = (((f i b (ii p) (jj p) - mean (f i)) * (f i b (ii p) (jj p) - mean (f i)) : ℝ) : EReal) := fun b p => by
    pointwise
    rw [rDev2_at hZ, ← EReal.coe_mul]
  rw [outer_sum, rCount_at, if_pos count_pos]
  simp only [hs, sum_real]
  have e := sum_low (fun b r c => (f i b r c - mean (f i)) * (f i b r c - mean (f i)))
  beta_reduce at e
  rw [e, lit_eps]
  refine (congrArg (fun z => Ideal.sqrt (z + _)) (div_real _ cn_pos.ne')).trans ?_
  rw [← EReal.coe_add]
  exact sqrt_real (den_pos (f i)).le

/-- The normalized array before its shift at a position. -/
theorem rScaled2_at (hZ : ∀ b i p, Z (ix3 b i p) = ((f i b (ii p) (jj p) : ℝ) : EReal)) {g : FVec Ideal S2 .f32} {gr : Fin 2 → ℝ}
    (hg : ∀ i, g (ix1 i) = ((gr i : ℝ) : EReal)) (b : Fin 32) (i : Fin 2) (p : Fin 8256) :
    rScaled2 Z g (ix3 b i p) = ((nrm (f i) b (ii p) (jj p) * gr i : ℝ) : EReal) := by
  pointwise [rScaled2]
  rw [rDev2_at hZ, rSd2_at hZ, hg, div_real _ (sd_pos (f i)).ne', ← EReal.coe_mul]
  rfl

/-- The normalized array at a position. -/
theorem rBn2_at (hZ : ∀ b i p, Z (ix3 b i p) = ((f i b (ii p) (jj p) : ℝ) : EReal)) {g be : FVec Ideal S2 .f32} {gr br : Fin 2 → ℝ}
    (hg : ∀ i, g (ix1 i) = ((gr i : ℝ) : EReal)) (hb : ∀ i, be (ix1 i) = ((br i : ℝ) : EReal)) (b : Fin 32) (i : Fin 2) (p : Fin 8256) :
    rBn2 Z g be (ix3 b i p) = ((bn (f i) (gr i) (br i) b (ii p) (jj p) : ℝ) : EReal) := by
  pointwise [rBn2]
  rw [rScaled2_at hZ hg, hb, ← EReal.coe_add]
  rfl

end

section
variable {f : Fin 64 → Grid} {Z : FVec Ideal S32x64x8256 .f32}

/-- The mean over the batch and the pairs. -/
def rMean64 (Z : FVec Ideal S32x64x8256 .f32) : FVec Ideal S1x64x1 .f32 :=
  Host.divf (broadcastInDim S1x64x1 ![1] bcast_S64_S1x64x1_1 (Host.reduceAdd Z (constant S_ .f32 0x00000000#32) reducesTo_S32x64x8256_S64_d0_2 h_S_))
    (broadcastInDim S1x64x1 ![] bcast_S_S1x64x1 (constant S_ .f32 0x48810000#32))

/-- The distance to the mean. -/
def rDev64 (Z : FVec Ideal S32x64x8256 .f32) : FVec Ideal S32x64x8256 .f32 :=
  subf Z (broadcastInDim S32x64x8256 ![0, 1, 2] bcast_S1x64x1_S32x64x8256_0_1_2 (rMean64 Z))

/-- The standard deviation. -/
def rSd64 (Z : FVec Ideal S32x64x8256 .f32) : FVec Ideal S1x64x1 .f32 :=
  Host.sqrt (addf (select (broadcastInDim S1x64x1 ![] bcast_S_S1x64x1 (cmpf .ogt rCount (constant S_ .f32 0x00000000#32)))
    (Host.divf (broadcastInDim S1x64x1 ![1] bcast_S64_S1x64x1_1 (Host.reduceAdd (mulf (rDev64 Z) (rDev64 Z)) (constant S_ .f32 0x00000000#32) reducesTo_S32x64x8256_S64_d0_2 h_S_))
      (broadcastInDim S1x64x1 ![] bcast_S_S1x64x1 rCount))
    (broadcastInDim S1x64x1 ![] bcast_S_S1x64x1 (id (constant S_ .f32 0x7FC00000#32)))) (broadcastInDim S1x64x1 ![] bcast_S_S1x64x1 (constant S_ .f32 0x3727C5AC#32)))

/-- The normalized array before its shift. -/
def rScaled64 (Z : FVec Ideal S32x64x8256 .f32) (g : FVec Ideal S64 .f32) : FVec Ideal S32x64x8256 .f32 :=
  mulf (Host.divf (rDev64 Z) (broadcastInDim S32x64x8256 ![0, 1, 2] bcast_S1x64x1_S32x64x8256_0_1_2 (rSd64 Z)))
    (broadcastInDim S32x64x8256 ![0, 1, 2] bcast_S1x64x1_S32x64x8256_0_1_2 (broadcastInDim S1x64x1 ![1] bcast_S64_S1x64x1_1 g))

/-- The normalized array. -/
def rBn64 (Z : FVec Ideal S32x64x8256 .f32) (g be : FVec Ideal S64 .f32) : FVec Ideal S32x64x8256 .f32 :=
  addf (rScaled64 Z g) (broadcastInDim S32x64x8256 ![0, 1, 2] bcast_S1x64x1_S32x64x8256_0_1_2 (broadcastInDim S1x64x1 ![1] bcast_S64_S1x64x1_1 be))

/-- The mean is the mean over the lower triangle. -/
theorem rMean64_at (hZ : ∀ b i p, Z (ix3 b i p) = ((f i b (ii p) (jj p) : ℝ) : EReal)) (a c : Fin 1) (i : Fin 64) :
    rMean64 Z (ix3 a i c) = ((mean (f i) : ℝ) : EReal) := by
  pointwise [rMean64]
  rw [outer_sum]
  simp only [hZ, sum_real, sum_low, lit_n]
  exact div_real _ cn_pos.ne'

/-- The distance to the mean at a position. -/
theorem rDev64_at (hZ : ∀ b i p, Z (ix3 b i p) = ((f i b (ii p) (jj p) : ℝ) : EReal)) (b : Fin 32) (i : Fin 64) (p : Fin 8256) :
    rDev64 Z (ix3 b i p) = ((f i b (ii p) (jj p) - mean (f i) : ℝ) : EReal) := by
  pointwise [rDev64]
  rw [rMean64_at hZ, hZ, ← EReal.coe_sub]

/-- The standard deviation is the one over the lower triangle. -/
theorem rSd64_at (hZ : ∀ b i p, Z (ix3 b i p) = ((f i b (ii p) (jj p) : ℝ) : EReal)) (a c : Fin 1) (i : Fin 64) :
    rSd64 Z (ix3 a i c) = ((Real.sqrt (var (f i) + ceps) : ℝ) : EReal) := by
  pointwise [rSd64]
  have hs : ∀ b p, mulf (rDev64 Z) (rDev64 Z) (ix3 b i p)
      = (((f i b (ii p) (jj p) - mean (f i)) * (f i b (ii p) (jj p) - mean (f i)) : ℝ) : EReal) := fun b p => by
    pointwise
    rw [rDev64_at hZ, ← EReal.coe_mul]
  rw [outer_sum, rCount_at, if_pos count_pos]
  simp only [hs, sum_real]
  have e := sum_low (fun b r c => (f i b r c - mean (f i)) * (f i b r c - mean (f i)))
  beta_reduce at e
  rw [e, lit_eps]
  refine (congrArg (fun z => Ideal.sqrt (z + _)) (div_real _ cn_pos.ne')).trans ?_
  rw [← EReal.coe_add]
  exact sqrt_real (den_pos (f i)).le

/-- The normalized array before its shift at a position. -/
theorem rScaled64_at (hZ : ∀ b i p, Z (ix3 b i p) = ((f i b (ii p) (jj p) : ℝ) : EReal)) {g : FVec Ideal S64 .f32} {gr : Fin 64 → ℝ}
    (hg : ∀ i, g (ix1 i) = ((gr i : ℝ) : EReal)) (b : Fin 32) (i : Fin 64) (p : Fin 8256) :
    rScaled64 Z g (ix3 b i p) = ((nrm (f i) b (ii p) (jj p) * gr i : ℝ) : EReal) := by
  pointwise [rScaled64]
  rw [rDev64_at hZ, rSd64_at hZ, hg, div_real _ (sd_pos (f i)).ne', ← EReal.coe_mul]
  rfl

/-- The normalized array at a position. -/
theorem rBn64_at (hZ : ∀ b i p, Z (ix3 b i p) = ((f i b (ii p) (jj p) : ℝ) : EReal)) {g be : FVec Ideal S64 .f32} {gr br : Fin 64 → ℝ}
    (hg : ∀ i, g (ix1 i) = ((gr i : ℝ) : EReal)) (hb : ∀ i, be (ix1 i) = ((br i : ℝ) : EReal)) (b : Fin 32) (i : Fin 64) (p : Fin 8256) :
    rBn64 Z g be (ix3 b i p) = ((bn (f i) (gr i) (br i) b (ii p) (jj p) : ℝ) : EReal) := by
  pointwise [rBn64]
  rw [rScaled64_at hZ hg, hb, ← EReal.coe_add]
  rfl

end

end Cert.ReferenceIdeal.Value

end
-- ==== Proof.Net.lean ====
/- The whole computation on the square of pairs over the reals: two features, three normalized linear layers, a last normalization. -/
module

public import proofs.«01_k».proof.Proof.Model
public import Mathlib.Data.EReal.Operations

@[expose] public section

noncomputable section

namespace Pairs

/-- The arguments as real numbers. The last shift may be infinite. -/
structure Params where
  x : Fin 32 → Fin 4 → Fin 128 → ℝ
  g : Fin 2 → ℝ
  be : Fin 2 → ℝ
  w0 : Fin 64 → Fin 2 → ℝ
  b0 : Fin 64 → ℝ
  g0 : Fin 64 → ℝ
  be0 : Fin 64 → ℝ
  w1 : Fin 64 → Fin 64 → ℝ
  b1 : Fin 64 → ℝ
  g1 : Fin 64 → ℝ
  be1 : Fin 64 → ℝ
  w2 : Fin 64 → Fin 64 → ℝ
  b2 : Fin 64 → ℝ
  g2 : Fin 64 → ℝ
  be2 : Fin 64 → EReal

variable (P : Params)

/-- The normalized features. -/
def net0 : Fin 2 → Grid := fun i => bn (feat P.x i) (P.g i) (P.be i)
/-- The first layer before its normalization. -/
def net1 : Fin 64 → Grid := fun o => lin (P.w0 o) (net0 P) (P.b0 o)
/-- The first layer. -/
def act1 : Fin 64 → Grid := fun o => relu (bn (net1 P o) (P.g0 o) (P.be0 o))
/-- The second layer before its normalization. -/
def net2 : Fin 64 → Grid := fun o => lin (P.w1 o) (act1 P) (P.b1 o)
/-- The second layer. -/
def act2 : Fin 64 → Grid := fun o => relu (bn (net2 P o) (P.g1 o) (P.be1 o))
/-- The last layer before its normalization. -/
def net3 : Fin 64 → Grid := fun o => lin (P.w2 o) (act2 P) (P.b2 o)
/-- The result at a pair. -/
def out (o : Fin 64) (b : Fin 32) (r c : Fin 128) : EReal := max (((nrm (net3 P o) b r c * P.g2 o : ℝ) : EReal) + P.be2 o) 0

/-- A quantity that does not change when the pair is turned round. -/
def Symm (f : Grid) : Prop := ∀ b r c, f b r c = f b c r

/-- Standardizing keeps symmetry. -/
theorem Symm.nrm {f : Grid} (h : Symm f) : Symm (nrm f) := fun b r c => by unfold Pairs.nrm; rw [h b r c]

/-- A normalization keeps symmetry. -/
theorem Symm.bn {f : Grid} (h : Symm f) (g be : ℝ) : Symm (bn f g be) := fun b r c => by unfold Pairs.bn; rw [h.nrm b r c]

/-- Rectifying keeps symmetry. -/
theorem Symm.relu {f : Grid} (h : Symm f) : Symm (relu f) := fun b r c => by unfold Pairs.relu; rw [h b r c]

/-- A linear layer keeps symmetry. -/
theorem Symm.lin {k : ℕ} (w : Fin k → ℝ) {h : Fin k → Grid} (hh : ∀ i, Symm (h i)) (b0 : ℝ) : Symm (lin w h b0) := fun b r c => by
  unfold Pairs.lin
  simp only [fun i => hh i b r c]

/-- The third layer's output is symmetric. -/
theorem net3_symm (o : Fin 64) : Symm (net3 P o) :=
  .lin _ (fun _ => .relu (.bn (.lin _ (fun _ => .relu (.bn (.lin _ (fun i => .bn (fun b r c => feat_symm P.x i b r c) _ _) _) _ _)) _) _ _)) _

/-- The result does not change when the pair is turned round. -/
theorem out_symm (o : Fin 64) (b : Fin 32) (r c : Fin 128) : out P o b r c = out P o b c r := by
  unfold out
  rw [(net3_symm P o).nrm b r c]

/-- The first layer as the kernel forms it is the first layer. -/
theorem net1_eq : lin1 (fun o i => P.w0 o i * scl (feat P.x i) (P.g i))
    (fun o => (∑ i : Fin 2, P.w0 o i * (P.be i - mean (feat P.x i) * scl (feat P.x i) (P.g i))) + P.b0 o) P.x = net1 P := by
  funext o b r c
  exact fold (feat P.x) P.g P.be (P.w0 o) (P.b0 o) b r c

/-- A later layer as the kernel forms it is that layer. -/
theorem lin2_eq (z : Fin 64 → Grid) (g be : Fin 64 → ℝ) (w : Fin 64 → Fin 64 → ℝ) (b0 : Fin 64 → ℝ) :
    lin2 (fun k => scl (z k) (g k)) (fun k => be k - mean (z k) * scl (z k) (g k)) w b0 z
      = fun o => lin (w o) (fun k => relu (bn (z k) (g k) (be k))) (b0 o) := by
  funext o b r c
  unfold lin2 lin relu
  simp only [affine, mul_comm (w o _)]

/-- The result as the kernel forms it is the result. -/
theorem out_eq (o : Fin 64) (b : Fin 32) (r c : Fin 128) :
    max (((scl (net3 P o) (P.g2 o) : ℝ) : EReal) * ((net3 P o b r c : ℝ) : EReal)
      + (P.be2 o - ((mean (net3 P o) * scl (net3 P o) (P.g2 o) : ℝ) : EReal))) 0 = out P o b r c := by
  unfold out
  rw [← affine', EReal.coe_sub, ← EReal.coe_mul, sub_eq_add_neg, sub_eq_add_neg, ← add_assoc, add_right_comm]

end Pairs

end
-- ==== Proof.Feats.lean ====
/- The two pair features in the first two launches, read at a row and a column. -/
module

public import proofs.«01_k».proof.Proof.Gen.KernelIdeal.Frame
public import proofs.«01_k».proof.Proof.Coe

@[expose] public section

noncomputable section

namespace Cert.KernelIdeal.Value

open Idealize.ShloMosaic Cert.KernelIdeal Cert.KernelIdeal.Gen Pairs

set_option maxRecDepth 16384

/-- The blocks of the input and its transpose at a grid point hold the particles `p` by component. -/
structure Holds (v0 : Vec Ideal S1x4x128 .f32) (v2 : Vec Ideal S1x128x4 .f32) (p : Fin 4 → Fin 128 → ℝ) : Prop where
  /-- The block itself. -/
  row : ∀ (k : Fin 4) (c : Fin 128), v0 (ix3 0 k c) = ((p k c : ℝ) : EReal)
  /-- The block of the transpose. -/
  col : ∀ (k : Fin 4) (c : Fin 128), v2 (ix3 0 c k) = ((p k c : ℝ) : EReal)

variable {v0 : Vec Ideal S1x4x128 .f32} {v2 : Vec Ideal S1x128x4 .f32} {p : Fin 4 → Fin 128 → ℝ}

/-- The zero start of a matrix slice. -/
theorem z2 : (![0, 0] : Fin 2 → Nat) = fun _ => 0 := funext fun a => by fin_cases a <;> rfl
/-- The zero start of a slice of rank three. -/
theorem z3 : (![0, 0, 0] : Fin 3 → Nat) = fun _ => 0 := funext fun a => by fin_cases a <;> rfl
/-- The zero start of a slice of rank four. -/
theorem z4 : (![0, 0, 0, 0] : Fin 4 → Nat) = fun _ => 0 := funext fun a => by fin_cases a <;> rfl

/-- An array of the layer's values. -/
def arr4 (f : Fin 64 → Grid) : S32x64x128x128.Idx → EReal := fun i => ((f (i 1) (i 0) (i 2) (i 3) : ℝ) : EReal)

/-- An array of row sums. -/
def arr3 (f : Fin 64 → Grid) : S32x64x128.Idx → EReal := fun i => ((rsum (f (i 1)) (i 0) (i 2) : ℝ) : EReal)

/-- The array of grids at a position. -/
theorem arr4_at (f : Fin 64 → Grid) (b : Fin 32) (o : Fin 64) (r c : Fin 128) : arr4 f (ix4 b o r c) = ((f o b r c : ℝ) : EReal) := rfl

/-- The array of row sums at a position. -/
theorem arr3_at (f : Fin 64 → Grid) (b : Fin 32) (o : Fin 64) (r : Fin 128) : arr3 f (ix3 b o r) = ((rsum (f o) b r : ℝ) : EReal) := rfl

/-- The lower triangle's indicator. -/
theorem mask0 (r c : Fin 128) : k0_pay20 (F := Ideal) (ix2 r c) = ((if c ≤ r then (1 : ℝ) else 0 : ℝ) : EReal) := by
  pointwise [k0_pay20]
  exact mask_real r c

/-- The second call's mask is one on and below the diagonal and zero above. -/
theorem mask1 (i : Fin 1) (r c : Fin 128) : k1_pay3 (F := Ideal) (ix3 i r c) = ((if c ≤ r then (1 : ℝ) else 0 : ℝ) : EReal) := by
  pointwise [k1_pay3]
  exact mask_real r c

/-- The layer call's mask is one on and below the diagonal and zero above. -/
theorem mask2 (i : Fin 1) (r c : Fin 128) : k2_pay5 (F := Ideal) (ix3 i r c) = ((if c ≤ r then (1 : ℝ) else 0 : ℝ) : EReal) := by
  pointwise [k2_pay5]
  exact mask_real r c

/-- The logarithm of the distance, in the first launch. -/
theorem lnd0 (h : Holds v0 v2 p) (hr : ∀ c, 0 < rarg (p 2 c) (p 3 c)) (r c : Fin 128) :
    k0_pay18 (k0_pay14 v0) (k0_pay15 v2) (k0_pay16 v0 v2) (k0_pay17 v0 v2) (ix2 r c)
      = ((lnd (rap (p 2 r) (p 3 r) - rap (p 2 c) (p 3 c)) (ang (p 1 r) (p 0 r) - ang (p 1 c) (p 0 c)) : ℝ) : EReal) := by
  pointwise [k0_pay18, k0_pay17, k0_pay16, k0_pay15, k0_pay14, k0_pay13, k0_pay12, k0_pay11, k0_pay10, k0_pay9, k0_pay8, k0_pay7,
    k0_pay6, k0_pay5, k0_pay4]
  simp only [h.row, h.col, rap_real (hr _), atan2_real]
  rw [← EReal.coe_sub, ← EReal.coe_sub, wrap_real, lnd_tail]
  rfl

/-- The logarithm of the squared mass, in the first launch. -/
theorem lnm0 (h : Holds v0 v2 p) (r c : Fin 128) :
    k0_pay19 (k0_pay6 v0) (k0_pay7 v0) (k0_pay8 v0) (k0_pay9 v0) (k0_pay10 v2) (k0_pay11 v2) (k0_pay12 v2) (k0_pay13 v2) (ix2 r c)
      = ((lnm (p 0 r + p 0 c) (p 1 r + p 1 c) (p 2 r + p 2 c) (p 3 r + p 3 c) : ℝ) : EReal) := by
  pointwise [k0_pay19, k0_pay13, k0_pay12, k0_pay11, k0_pay10, k0_pay9, k0_pay8, k0_pay7, k0_pay6, k0_pay5, k0_pay4]
  simp only [h.row, h.col, ← EReal.coe_add]
  exact lnm_real _ _ _ _

/-- The logarithm of the distance times a weight, in the second launch. -/
theorem lnd1 (h : Holds v0 v2 p) (hr : ∀ c, 0 < rarg (p 2 c) (p 3 c)) (A : Vec Ideal S64x2 .f32) (o : Fin 64) (r c : Fin 128) :
    k1_pay23 (k1_pay16 v0) (k1_pay17 v2) (k1_pay18 v0 v2) (k1_pay19 v0 v2) A (ix3 o r c)
      = A (ix2 o 0)
        * ((lnd (rap (p 2 r) (p 3 r) - rap (p 2 c) (p 3 c)) (ang (p 1 r) (p 0 r) - ang (p 1 c) (p 0 c)) : ℝ) : EReal) := by
  pointwise [k1_pay23, k1_pay20, k1_pay19, k1_pay18, k1_pay17, k1_pay16, k1_pay15, k1_pay14, k1_pay13, k1_pay12, k1_pay11, k1_pay10, k1_pay9,
    k1_pay8, k1_pay7, k1_pay6]
  simp only [h.row, h.col, rap_real (hr _), atan2_real]
  rw [← EReal.coe_sub, ← EReal.coe_sub, wrap_real, lnd_tail]
  rfl

/-- The logarithm of the squared mass, in the second launch. -/
theorem lnm1 (h : Holds v0 v2 p) (i : Fin 1) (r c : Fin 128) :
    k1_pay24 (k1_pay8 v0) (k1_pay9 v0) (k1_pay10 v0) (k1_pay11 v0) (k1_pay12 v2) (k1_pay13 v2) (k1_pay14 v2) (k1_pay15 v2) (ix3 i r c)
      = ((lnm (p 0 r + p 0 c) (p 1 r + p 1 c) (p 2 r + p 2 c) (p 3 r + p 3 c) : ℝ) : EReal) := by
  pointwise [k1_pay24, k1_pay15, k1_pay14, k1_pay13, k1_pay12, k1_pay11, k1_pay10, k1_pay9, k1_pay8, k1_pay7, k1_pay6]
  simp only [h.row, h.col, ← EReal.coe_add]
  exact lnm_real _ _ _ _

end Cert.KernelIdeal.Value

end
-- ==== Proof.HostMath.lean ====
/- The kernel's host arithmetic between its launches, at real numbers. -/
module

public import proofs.«01_k».proof.Proof.Gen.KernelIdeal.Frame
public import proofs.«01_k».proof.Proof.Feats
public import proofs.«01_k».proof.Proof.Outer
public import Idealize.ShloMosaic.Lib.Pointwise

@[expose] public section

noncomputable section

namespace Cert.KernelIdeal.Value

open Idealize.ShloMosaic Idealize.ShloMosaic.TcCoe Idealize.SL.Sem
open Cert.KernelIdeal Cert.KernelIdeal.Gen Pairs

/-- A layer's mean from its row sums. -/
def hMean (s : FVec Ideal S32x64x128 .f32) : FVec Ideal S64 .f32 :=
  Host.divf (Host.reduceAdd s (constant S_ .f32 0x00000000#32) reducesTo_S32x64x128_S64_d0_2 h_S_)
    (broadcastInDim S64 ![] bcast_S_S64 (constant S_ .f32 0x48810000#32))

/-- A layer's scale from its row sums and the row sums of its squares. -/
def hScale (s q : FVec Ideal S32x64x128 .f32) (g : FVec Ideal S64 .f32) : FVec Ideal S64 .f32 :=
  mulf g (Host.rsqrt (addf (subf (hMean q) (mulf (hMean s) (hMean s))) (broadcastInDim S64 ![] bcast_S_S64 (constant S_ .f32 0x3727C5AC#32))))

/-- A layer's shift. -/
def hShift (s q : FVec Ideal S32x64x128 .f32) (g be : FVec Ideal S64 .f32) : FVec Ideal S64 .f32 :=
  subf be (mulf (hMean s) (hScale s q g))

/-- The first normalization's mean from the column sums. -/
def hMean0 (s : FVec Ideal S32x2x128 .f32) : FVec Ideal S2 .f32 :=
  Host.divf (Host.reduceAdd s (constant S_ .f32 0x00000000#32) reducesTo_S32x2x128_S2_d0_2 h_S_)
    (broadcastInDim S2 ![] bcast_S_S2 (constant S_ .f32 0x48810000#32))

/-- The features' column sums, out of the four arrays together. -/
def hSums (s : FVec Ideal S32x4x128 .f32) : FVec Ideal S32x2x128 .f32 :=
  extractStridedSlice S32x2x128 ![0, 0, 0] s slices_S32x4x128_S32x2x128_0_0_0

/-- The column sums of the features' squares. -/
def hSquares (s : FVec Ideal S32x4x128 .f32) : FVec Ideal S32x2x128 .f32 :=
  extractStridedSlice S32x2x128 ![0, 2, 0] s slices_S32x4x128_S32x2x128_0_2_0

/-- The first normalization's scale. -/
def hScale0 (s : FVec Ideal S32x4x128 .f32) (g : FVec Ideal S2 .f32) : FVec Ideal S2 .f32 :=
  mulf g (Host.rsqrt (addf (subf (hMean0 (hSquares s)) (mulf (hMean0 (hSums s)) (hMean0 (hSums s))))
    (broadcastInDim S2 ![] bcast_S_S2 (constant S_ .f32 0x3727C5AC#32))))

/-- The first layer's folded weights. -/
def hFold (s : FVec Ideal S32x4x128 .f32) (g : FVec Ideal S2 .f32) (w : FVec Ideal S64x2 .f32) : FVec Ideal S64x2 .f32 :=
  mulf w (broadcastInDim S64x2 ![0, 1] bcast_S1x2_S64x2_0_1 (broadcastInDim S1x2 ![1] bcast_S2_S1x2_1 (hScale0 s g)))

/-- The first layer's folded shift. -/
def hFoldC (s : FVec Ideal S32x4x128 .f32) (g be : FVec Ideal S2 .f32) (w : FVec Ideal S64x2 .f32) (b0 : FVec Ideal S64 .f32) : FVec Ideal S64 .f32 :=
  addf (Host.dotGeneral dot_S64x2_S2_S64_1_0_0_n_n_n none w (subf be (mulf (hMean0 (hSums s)) (hScale0 s g)))) b0

section
variable {f : Fin 64 → Grid} {s q : FVec Ideal S32x64x128 .f32} {g be : FVec Ideal S64 .f32} {gr : Fin 64 → ℝ}

/-- The host's mean is the mean over the pairs. -/
theorem hMean_at (hs : ∀ b o r, s (ix3 b o r) = ((rsum (f o) b r : ℝ) : EReal)) (o : Fin 64) : hMean s (ix1 o) = ((mean (f o) : ℝ) : EReal) := by
  pointwise [hMean]
  rw [outer_sum]
  simp only [hs, sum_real, rsum_total, lit_n]
  exact div_real _ cn_pos.ne'

/-- The host's scale of a channel. -/
theorem hScale_at (hs : ∀ b o r, s (ix3 b o r) = ((rsum (f o) b r : ℝ) : EReal)) (hq : ∀ b o r, q (ix3 b o r) = ((rsum (sq f o) b r : ℝ) : EReal))
    (hg : ∀ o, g (ix1 o) = ((gr o : ℝ) : EReal)) (o : Fin 64) : hScale s q g (ix1 o) = ((scl (f o) (gr o) : ℝ) : EReal) := by
  pointwise [hScale]
  rw [hMean_at hs, hMean_at hq, hg, lit_eps, ← EReal.coe_mul, ← EReal.coe_sub, ← EReal.coe_add]
  have e : mean (sq f o) - mean (f o) * mean (f o) = var (f o) := var_eq (f o)
  rw [e, rsqrt_real (den_pos _), ← EReal.coe_mul]
  rfl

/-- The host's shift of a channel. -/
theorem hShift_at (hs : ∀ b o r, s (ix3 b o r) = ((rsum (f o) b r : ℝ) : EReal)) (hq : ∀ b o r, q (ix3 b o r) = ((rsum (sq f o) b r : ℝ) : EReal))
    (hg : ∀ o, g (ix1 o) = ((gr o : ℝ) : EReal)) (o : Fin 64) :
    hShift s q g be (ix1 o) = be (ix1 o) - ((mean (f o) * scl (f o) (gr o) : ℝ) : EReal) := by
  pointwise [hShift]
  rw [hMean_at hs, hScale_at hs hq hg, ← EReal.coe_mul]

end

section
variable {f : Fin 2 → Grid} {s : FVec Ideal S32x4x128 .f32} {g be : FVec Ideal S2 .f32} {gr br : Fin 2 → ℝ}
  {w : FVec Ideal S64x2 .f32} {wr : Fin 64 → Fin 2 → ℝ} {b0 : FVec Ideal S64 .f32} {b0r : Fin 64 → ℝ}

/-- What the first launch's sums are. -/
structure Sums (f : Fin 2 → Grid) (s : FVec Ideal S32x4x128 .f32) : Prop where
  s0 : ∀ b c, s (ix3 b 0 c) = ((csum (f 0) b c : ℝ) : EReal)
  s1 : ∀ b c, s (ix3 b 1 c) = ((csum (f 1) b c : ℝ) : EReal)
  q0 : ∀ b c, s (ix3 b 2 c) = ((csum (fun b r c => f 0 b r c * f 0 b r c) b c : ℝ) : EReal)
  q1 : ∀ b c, s (ix3 b 3 c) = ((csum (fun b r c => f 1 b r c * f 1 b r c) b c : ℝ) : EReal)

/-- The host's mean of a feature is its mean over the pairs. -/
theorem hMean0_at {v : FVec Ideal S32x2x128 .f32} {h : Grid} (i : Fin 2) (hs : ∀ b c, v (ix3 b i c) = ((csum h b c : ℝ) : EReal)) :
    hMean0 v (ix1 i) = ((mean h : ℝ) : EReal) := by
  pointwise [hMean0]
  rw [outer_sum]
  simp only [hs, sum_real, csum_total, lit_n]
  exact div_real _ cn_pos.ne'

/-- The first two rows hold the column sums of the features. -/
theorem hPair_s (H : Sums f s) (i : Fin 2) (b : Fin 32) (c : Fin 128) : hSums s (ix3 b i c) = ((csum (f i) b c : ℝ) : EReal) := by
  match i with
  | 0 => refine Eq.trans ?_ (H.s0 b c); pointwise [hSums]
  | 1 => refine Eq.trans ?_ (H.s1 b c); pointwise [hSums]

/-- The last two rows hold the column sums of the features' squares. -/
theorem hPair_q (H : Sums f s) (i : Fin 2) (b : Fin 32) (c : Fin 128) :
    hSquares s (ix3 b i c) = ((csum (fun b r c => f i b r c * f i b r c) b c : ℝ) : EReal) := by
  match i with
  | 0 => refine Eq.trans ?_ (H.q0 b c); pointwise [hSquares]
  | 1 => refine Eq.trans ?_ (H.q1 b c); pointwise [hSquares]

/-- The host's scale of a feature. -/
theorem hScale0_at (H : Sums f s) (hg : ∀ i, g (ix1 i) = ((gr i : ℝ) : EReal)) (i : Fin 2) :
    hScale0 s g (ix1 i) = ((scl (f i) (gr i) : ℝ) : EReal) := by
  pointwise [hScale0]
  rw [hMean0_at i (hPair_s H i), hMean0_at i (hPair_q H i), hg, lit_eps, ← EReal.coe_mul, ← EReal.coe_sub, ← EReal.coe_add]
  have e : mean (fun b r c => f i b r c * f i b r c) - mean (f i) * mean (f i) = var (f i) := var_eq (f i)
  rw [e, rsqrt_real (den_pos _), ← EReal.coe_mul]
  rfl

/-- The first weights with the features' scales folded in. -/
theorem hFold_at (H : Sums f s) (hg : ∀ i, g (ix1 i) = ((gr i : ℝ) : EReal)) (hw : ∀ o i, w (ix2 o i) = ((wr o i : ℝ) : EReal)) (o : Fin 64) (i : Fin 2) :
    hFold s g w (ix2 o i) = ((wr o i * scl (f i) (gr i) : ℝ) : EReal) := by
  pointwise [hFold]
  rw [hScale0_at H hg, hw, ← EReal.coe_mul]

/-- The first bias with the features' shifts folded in. -/
theorem hFoldC_at (H : Sums f s) (hg : ∀ i, g (ix1 i) = ((gr i : ℝ) : EReal)) (hb : ∀ i, be (ix1 i) = ((br i : ℝ) : EReal))
    (hw : ∀ o i, w (ix2 o i) = ((wr o i : ℝ) : EReal)) (h0 : ∀ o, b0 (ix1 o) = ((b0r o : ℝ) : EReal)) (o : Fin 64) :
    hFoldC s g be w b0 (ix1 o) = (((∑ i : Fin 2, wr o i * (br i - mean (f i) * scl (f i) (gr i))) + b0r o : ℝ) : EReal) := by
  pointwise [hFoldC]
  simp only [hScale0_at H hg, hMean0_at _ (hPair_s H _), hb, hw, h0, ← EReal.coe_mul, ← EReal.coe_sub, sum_real, ← EReal.coe_add]

end

end Cert.KernelIdeal.Value

end
-- ==== Proof.Entry.lean ====
/- What each host stretch of the kernel leaves in the operands of the launch after it, as functions of what it finds. -/
module

public import proofs.«01_k».proof.Proof.HostMath

@[expose] public section

set_option maxRecDepth 16384

noncomputable section

namespace Cert.KernelIdeal.Value

open Idealize.ShloMosaic Idealize.ShloMosaic.TcCoe Idealize.SL.Sem
open Cert.KernelIdeal Cert.KernelIdeal.Gen Pairs

variable (W : Valuation τ sig (Elt Ideal))

/-- A buffer's contents in a valuation. -/
abbrev rd (r : Ref sig .tc) := W (Proc.devRef .tc r)

/-- What the first call is given: the transposed particles. -/
theorem ent0_xt : (StableHlo.after hostOps0 W (Proc.devRef .tc main_call0_v0) : FVec Ideal S32x128x4 .f32)
    = transpose S32x128x4 [0, 2, 1] (W (Proc.devRef .tc main_arg0) : FVec Ideal S32x4x128 .f32) transposes_S32x4x128_S32x128x4_0_2_1 := by
  after_results_simp
  rfl

/-- What the second call is given: the folded weights. -/
theorem ent1_A : (StableHlo.after hostOps1 W (Proc.devRef .tc main_call0_v20) : FVec Ideal S64x2 .f32)
    = hFold (W (Proc.devRef .tc main_call0_v1)) (W (Proc.devRef .tc main_arg1)) (W (Proc.devRef .tc main_arg3)) := by
  after_results_simp
  rfl

/-- What the second call is given: the folded bias. -/
theorem ent1_c : (StableHlo.after hostOps1 W (Proc.devRef .tc main_call0_v23) : FVec Ideal S64x1 .f32)
    = shapeCast S64x1 (hFoldC (W (Proc.devRef .tc main_call0_v1)) (W (Proc.devRef .tc main_arg1)) (W (Proc.devRef .tc main_arg2))
        (W (Proc.devRef .tc main_arg3)) (W (Proc.devRef .tc main_arg4))) shapeCasts_S64_S64x1 := by
  after_results_simp
  rfl

/-- What call 3 is given: the scale of each channel. -/
theorem ent2_a : (StableHlo.after hostOps2 W (Proc.devRef .tc main_call0_v39) : FVec Ideal S64x1 .f32)
    = shapeCast S64x1 (hScale (W (Proc.devRef .tc main_call0_v24_1)) (W (Proc.devRef .tc main_call0_v24_2)) (W (Proc.devRef .tc main_arg5))) shapeCasts_S64_S64x1 := by
  after_results_simp
  rfl

/-- What call 3 is given: the shift of each channel. -/
theorem ent2_s : (StableHlo.after hostOps2 W (Proc.devRef .tc main_call0_v40) : FVec Ideal S64x1 .f32)
    = shapeCast S64x1 (hShift (W (Proc.devRef .tc main_call0_v24_1)) (W (Proc.devRef .tc main_call0_v24_2)) (W (Proc.devRef .tc main_arg5)) (W (Proc.devRef .tc main_arg6))) shapeCasts_S64_S64x1 := by
  after_results_simp
  rfl

/-- What call 3 is given: the bias of each channel. -/
theorem ent2_b : (StableHlo.after hostOps2 W (Proc.devRef .tc main_call0_v41) : FVec Ideal S64x1 .f32)
    = shapeCast S64x1 (W (Proc.devRef .tc main_arg8)) shapeCasts_S64_S64x1 := by
  after_results_simp
  rfl

/-- What call 4 is given: the scale of each channel. -/
theorem ent3_a : (StableHlo.after hostOps3 W (Proc.devRef .tc main_call0_v57) : FVec Ideal S64x1 .f32)
    = shapeCast S64x1 (hScale (W (Proc.devRef .tc main_call0_v42_1)) (W (Proc.devRef .tc main_call0_v42_2)) (W (Proc.devRef .tc main_arg9))) shapeCasts_S64_S64x1 := by
  after_results_simp
  rfl

/-- What call 4 is given: the shift of each channel. -/
theorem ent3_s : (StableHlo.after hostOps3 W (Proc.devRef .tc main_call0_v58) : FVec Ideal S64x1 .f32)
    = shapeCast S64x1 (hShift (W (Proc.devRef .tc main_call0_v42_1)) (W (Proc.devRef .tc main_call0_v42_2)) (W (Proc.devRef .tc main_arg9)) (W (Proc.devRef .tc main_arg10))) shapeCasts_S64_S64x1 := by
  after_results_simp
  rfl

/-- What call 4 is given: the bias of each channel. -/
theorem ent3_b : (StableHlo.after hostOps3 W (Proc.devRef .tc main_call0_v59) : FVec Ideal S64x1 .f32)
    = shapeCast S64x1 (W (Proc.devRef .tc main_arg12)) shapeCasts_S64_S64x1 := by
  after_results_simp
  rfl

/-- What call 5 is given: the scale of each channel. -/
theorem ent4_a : (StableHlo.after hostOps4 W (Proc.devRef .tc main_call0_v75) : FVec Ideal S64x1 .f32)
    = shapeCast S64x1 (hScale (W (Proc.devRef .tc main_call0_v60_1)) (W (Proc.devRef .tc main_call0_v60_2)) (W (Proc.devRef .tc main_arg13))) shapeCasts_S64_S64x1 := by
  after_results_simp
  rfl

/-- What call 5 is given: the shift of each channel. -/
theorem ent4_s : (StableHlo.after hostOps4 W (Proc.devRef .tc main_call0_v76) : FVec Ideal S64x1 .f32)
    = shapeCast S64x1 (hShift (W (Proc.devRef .tc main_call0_v60_1)) (W (Proc.devRef .tc main_call0_v60_2)) (W (Proc.devRef .tc main_arg13)) (W (Proc.devRef .tc main_arg14))) shapeCasts_S64_S64x1 := by
  after_results_simp
  rfl

end Cert.KernelIdeal.Value

end
-- ==== Proof.Region0.lean ====
/- The first launch: for each feature, the column sums over the lower triangle of its values and of their squares. -/
module

public import proofs.«01_k».proof.Proof.Feats
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Pairs

/-- The four quantities summed: the features and their squares. -/
def quad (x : Fin 32 → Fin 4 → Fin 128 → ℝ) : Fin 4 → Grid :=
  ![feat0 x, feat1 x, fun b r c => feat0 x b r c * feat0 x b r c, fun b r c => feat1 x b r c * feat1 x b r c]

/-- The array of the column sums. -/
def arr0 (x : Fin 32 → Fin 4 → Fin 128 → ℝ) : S32x4x128.Idx → EReal := fun i => ((csum (quad x (i 1)) (i 0) (i 2) : ℝ) : EReal)

/-- The array of the features' sums at a position. -/
theorem arr0_at (x : Fin 32 → Fin 4 → Fin 128 → ℝ) (b : Fin 32) (k : Fin 4) (c : Fin 128) :
    arr0 x (ix3 b k c) = ((csum (quad x k) b c : ℝ) : EReal) := rfl

section
variable {v0 : Vec Ideal S1x4x128 .f32} {v2 : Vec Ideal S1x128x4 .f32} {x : Fin 32 → Fin 4 → Fin 128 → ℝ} {b : Fin 32}

/-- The first row that a step stores: the first feature's column sums. -/
theorem st0 (h : Holds v0 v2 (x b)) (hr : ∀ c, 0 < rarg (x b 2 c) (x b 3 c)) (i j : Fin 1) (c : Fin 128) :
    k0_pay21 (k0_pay14 v0) (k0_pay15 v2) (k0_pay16 v0 v2) (k0_pay17 v0 v2) (ix3 i j c) = ((csum (quad x 0) b c : ℝ) : EReal) := by
  pointwise [k0_pay21]
  simp only [lnd0 h hr, mask0, ← EReal.coe_mul]
  exact sum_real _

/-- The second row that a step stores: the second feature's column sums. -/
theorem st1 (h : Holds v0 v2 (x b)) (i j : Fin 1) (c : Fin 128) :
    k0_pay1 (k0_pay22 (k0_pay6 v0) (k0_pay7 v0) (k0_pay8 v0) (k0_pay9 v0) (k0_pay10 v2) (k0_pay11 v2) (k0_pay12 v2) (k0_pay13 v2)) (ix3 i j c)
      = ((csum (quad x 1) b c : ℝ) : EReal) := by
  pointwise [k0_pay1, k0_pay22]
  simp only [lnm0 h, mask0, ← EReal.coe_mul]
  exact sum_real _

/-- The third row that a step stores: the column sums of the first feature's squares. -/
theorem st2 (h : Holds v0 v2 (x b)) (hr : ∀ c, 0 < rarg (x b 2 c) (x b 3 c)) (i j : Fin 1) (c : Fin 128) :
    k0_pay2 (k0_pay18 (k0_pay14 v0) (k0_pay15 v2) (k0_pay16 v0 v2) (k0_pay17 v0 v2)) (k0_pay20 (F := Ideal)) (ix3 i j c)
      = ((csum (quad x 2) b c : ℝ) : EReal) := by
  pointwise [k0_pay2]
  simp only [lnd0 h hr, mask0, ← EReal.coe_mul]
  exact sum_real _

/-- The fourth row that a step stores: the column sums of the second feature's squares. -/
theorem st3 (h : Holds v0 v2 (x b)) (i j : Fin 1) (c : Fin 128) :
    k0_pay3 (k0_pay19 (k0_pay6 v0) (k0_pay7 v0) (k0_pay8 v0) (k0_pay9 v0) (k0_pay10 v2) (k0_pay11 v2) (k0_pay12 v2) (k0_pay13 v2))
      (k0_pay20 (F := Ideal)) (ix3 i j c) = ((csum (quad x 3) b c : ℝ) : EReal) := by
  pointwise [k0_pay3]
  simp only [lnm0 h, mask0, ← EReal.coe_mul]
  exact sum_real _

/-- The launch's block at a grid point. -/
theorem out0_at (H : Holds v0 v2 (x b)) (hr : ∀ c, 0 < rarg (x b 2 c) (x b 3 c)) (y : S1x4x128.Idx) :
    out0_2 v0 v2 y = arr0 x (ix3 b (y 1) (y 2)) := by
  unfold out0_2
  unfold k0_pay23 k0_pay24 k0_pay25 k0_pay26 k0_pay27 k0_pay28 k0_pay29 k0_pay30 k0_pay31 k0_pay32 k0_pay33 k0_pay34 k0_pay35
  simp only [View.ld_unit_zero (S := S1x4x128) z3, View.ld_unit_zero (S := S1x128x4) z3]
  canon_tiles q h
  · have e1 : @Eq (Fin 4) (y 1) 3 := Fin.ext (show (y 1 : ℕ) = 3 by omega)
    have e2 : @Eq (Fin 128) (y 2) (q 2) := Fin.ext h2
    rw [e1, e2]
    exact (congrArg _ (eq_ix3 (n0 := 1) (n1 := 1) (n2 := 128) q)).trans (st3 H (q 0) (q 1) (q 2))
  · have e1 : @Eq (Fin 4) (y 1) 2 := Fin.ext (show (y 1 : ℕ) = 2 by omega)
    have e2 : @Eq (Fin 128) (y 2) (q 2) := Fin.ext h2
    rw [e1, e2]
    exact (congrArg _ (eq_ix3 (n0 := 1) (n1 := 1) (n2 := 128) q)).trans (st2 H hr (q 0) (q 1) (q 2))
  · have e1 : @Eq (Fin 4) (y 1) 1 := Fin.ext (show (y 1 : ℕ) = 1 by omega)
    have e2 : @Eq (Fin 128) (y 2) (q 2) := Fin.ext h2
    rw [e1, e2]
    exact (congrArg _ (eq_ix3 (n0 := 1) (n1 := 1) (n2 := 128) q)).trans (st1 H (q 0) (q 1) (q 2))
  · have e1 : @Eq (Fin 4) (y 1) 0 := Fin.ext (show (y 1 : ℕ) = 0 by omega)
    have e2 : @Eq (Fin 128) (y 2) (q 2) := Fin.ext h2
    rw [e1, e2]
    exact (congrArg _ (eq_ix3 (n0 := 1) (n1 := 1) (n2 := 128) q)).trans (st0 H hr (q 0) (q 1) (q 2))

end

variable (V : (c : Dev nD) → (b : Ref sig .tc) → Buf (Elt Ideal) ((c : Thread nD τ).loc b)) (d : Dev nD)

/-- Where each window's block lies. -/
theorem idx0 : ∀ t : Fin cfg0.N, win0_0.index t = ![t.val, 0, 0] ∧ win0_1.index t = ![t.val, 0, 0] ∧ win0_2.index t = ![t.val, 0, 0] :=
  (by decide +kernel : ∀ t : Fin grid0.N, _)

/-- What the launch finds in its operands. -/
structure In0 (x : Fin 32 → Fin 4 → Fin 128 → ℝ) : Prop where
  pos : ∀ b c, 0 < rarg (x b 2 c) (x b 3 c)
  x0 : ∀ b k s, (V d main_arg0 : FVec Ideal S32x4x128 .f32) (ix3 b k s) = ((x b k s : ℝ) : EReal)
  xt : ∀ b s k, (V d main_call0_v0 : FVec Ideal S32x128x4 .f32) (ix3 b s k) = ((x b k s : ℝ) : EReal)

variable {V d} {x : Fin 32 → Fin 4 → Fin 128 → ℝ}

/-- A grid point as a batch entry. -/
def bat0 (t : Fin cfg0.N) : Fin 32 := ⟨t.val, lt_of_lt_of_eq t.isLt N_0⟩

/-- The blocks of a step hold one event's particles, both ways round. -/
theorem blk0_x (h : In0 V d x) (t : Fin cfg0.N) : Holds (iblk0 V d 0 t) (iblk0 V d 1 t) (x (bat0 t)) where
  row k c := by
    refine Eq.trans ?_ (h.x0 (bat0 t) k c)
    blk_ext [iblk0, idx0 t, bat0]
  col k c := by
    refine Eq.trans ?_ (h.xt (bat0 t) c k)
    blk_ext [iblk0, idx0 t, bat0]

/-- The column sums after the launch. -/
theorem arr0_st (h : In0 V d x) : (dat0 V d).arrAt 2 cfg0.N = arr0 x := by
  refine (dat0 V d).arrAt_eq_of_covers 2 _ (by decide +kernel) fun t _ y => ?_
  blk_simp
  rw [after0_2]
  refine (out0_at (blk0_x h t) (h.pos _) y).trans (congrArg (arr0 x) ?_)
  blk_ext [idx0 t, bat0]

end Cert.KernelIdeal.Value

end
-- ==== Proof.Region1.lean ====
/- The second launch: the first layer at every pair, and the row sums of its values and of their squares. -/
module

public import proofs.«01_k».proof.Proof.Feats
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Pairs

section
variable {v0 : Vec Ideal S1x4x128 .f32} {v2 : Vec Ideal S1x128x4 .f32} {A : Vec Ideal S64x2 .f32} {cv : Vec Ideal S64x1 .f32}
variable {x : Fin 32 → Fin 4 → Fin 128 → ℝ} {A' : Fin 64 → Fin 2 → ℝ} {cv' : Fin 64 → ℝ} {b : Fin 32}

/-- The layer's value at a pair, before it is stored. -/
theorem z1_core (h : Holds v0 v2 (x b)) (hr : ∀ c, 0 < rarg (x b 2 c) (x b 3 c)) (hA : ∀ o k, A (ix2 o k) = ((A' o k : ℝ) : EReal))
    (hc : ∀ o, cv (ix2 o 0) = ((cv' o : ℝ) : EReal)) (o : Fin 64) (r c : Fin 128) :
    k1_pay1 (k1_pay21 A) (k1_pay22 cv) (k1_pay23 (k1_pay16 v0) (k1_pay17 v2) (k1_pay18 v0 v2) (k1_pay19 v0 v2) A)
      (k1_pay24 (k1_pay8 v0) (k1_pay9 v0) (k1_pay10 v0) (k1_pay11 v0) (k1_pay12 v2) (k1_pay13 v2) (k1_pay14 v2) (k1_pay15 v2)) (ix3 o r c)
      = ((lin1 A' cv' x o b r c : ℝ) : EReal) := by
  pointwise [k1_pay1, k1_pay21, k1_pay20, k1_pay22]
  rw [lnd1 h hr, lnm1 h, hA, hA, hc, ← EReal.coe_mul, ← EReal.coe_mul, ← EReal.coe_add, ← EReal.coe_add]
  rfl

/-- What a step stores of the first layer. -/
theorem z1_store (h : Holds v0 v2 (x b)) (hr : ∀ c, 0 < rarg (x b 2 c) (x b 3 c)) (hA : ∀ o k, A (ix2 o k) = ((A' o k : ℝ) : EReal))
    (hc : ∀ o, cv (ix2 o 0) = ((cv' o : ℝ) : EReal)) (i : Fin 1) (o : Fin 64) (r c : Fin 128) :
    k1_pay2 (k1_pay21 A) (k1_pay22 cv) (k1_pay23 (k1_pay16 v0) (k1_pay17 v2) (k1_pay18 v0 v2) (k1_pay19 v0 v2) A)
      (k1_pay24 (k1_pay8 v0) (k1_pay9 v0) (k1_pay10 v0) (k1_pay11 v0) (k1_pay12 v2) (k1_pay13 v2) (k1_pay14 v2) (k1_pay15 v2)) (ix4 i o r c)
      = ((lin1 A' cv' x o b r c : ℝ) : EReal) := by
  pointwise [k1_pay2]
  exact z1_core h hr hA hc o r c

/-- What a step stores of the first layer's row sums. -/
theorem s1_store (h : Holds v0 v2 (x b)) (hr : ∀ c, 0 < rarg (x b 2 c) (x b 3 c)) (hA : ∀ o k, A (ix2 o k) = ((A' o k : ℝ) : EReal))
    (hc : ∀ o, cv (ix2 o 0) = ((cv' o : ℝ) : EReal)) (i : Fin 1) (o : Fin 64) (r : Fin 128) :
    k1_pay4 (k1_pay21 A) (k1_pay22 cv) (k1_pay23 (k1_pay16 v0) (k1_pay17 v2) (k1_pay18 v0 v2) (k1_pay19 v0 v2) A)
      (k1_pay24 (k1_pay8 v0) (k1_pay9 v0) (k1_pay10 v0) (k1_pay11 v0) (k1_pay12 v2) (k1_pay13 v2) (k1_pay14 v2) (k1_pay15 v2)) (ix3 i o r)
      = ((rsum (lin1 A' cv' x o) b r : ℝ) : EReal) := by
  pointwise [k1_pay4]
  simp only [z1_core h hr hA hc, mask1, ← EReal.coe_mul]
  exact sum_real _

/-- What a step stores of the row sums of the first layer's squares. -/
theorem q1_store (h : Holds v0 v2 (x b)) (hr : ∀ c, 0 < rarg (x b 2 c) (x b 3 c)) (hA : ∀ o k, A (ix2 o k) = ((A' o k : ℝ) : EReal))
    (hc : ∀ o, cv (ix2 o 0) = ((cv' o : ℝ) : EReal)) (i : Fin 1) (o : Fin 64) (r : Fin 128) :
    k1_pay5 (k1_pay21 A) (k1_pay22 cv) (k1_pay23 (k1_pay16 v0) (k1_pay17 v2) (k1_pay18 v0 v2) (k1_pay19 v0 v2) A)
      (k1_pay24 (k1_pay8 v0) (k1_pay9 v0) (k1_pay10 v0) (k1_pay11 v0) (k1_pay12 v2) (k1_pay13 v2) (k1_pay14 v2) (k1_pay15 v2)) (ix3 i o r)
      = ((rsum (sq (lin1 A' cv' x) o) b r : ℝ) : EReal) := by
  pointwise [k1_pay5]
  simp only [z1_core h hr hA hc, mask1, ← EReal.coe_mul]
  exact sum_real _

end

section
variable (V : (c : Dev nD) → (b : Ref sig .tc) → Buf (Elt Ideal) ((c : Thread nD τ).loc b)) (d : Dev nD)

/-- Where each window's block lies. -/
theorem idx1 : ∀ t : Fin cfg1.N, win1_0.index t = ![t.val, 0, 0] ∧ win1_1.index t = ![t.val, 0, 0] ∧ win1_2.index t = ![0, 0]
    ∧ win1_3.index t = ![0, 0] ∧ win1_4.index t = ![t.val, 0, 0, 0] ∧ win1_5.index t = ![t.val, 0, 0] ∧ win1_6.index t = ![t.val, 0, 0] :=
  (by decide +kernel : ∀ t : Fin grid1.N, _)

variable {x : Fin 32 → Fin 4 → Fin 128 → ℝ} {A' : Fin 64 → Fin 2 → ℝ} {cv' : Fin 64 → ℝ}

/-- What the launch finds in its operands. -/
structure In1 (x : Fin 32 → Fin 4 → Fin 128 → ℝ) (A' : Fin 64 → Fin 2 → ℝ) (cv' : Fin 64 → ℝ) : Prop where
  pos : ∀ b c, 0 < rarg (x b 2 c) (x b 3 c)
  x0 : ∀ b k s, (V d main_arg0 : FVec Ideal S32x4x128 .f32) (ix3 b k s) = ((x b k s : ℝ) : EReal)
  xt : ∀ b s k, (V d main_call0_v0 : FVec Ideal S32x128x4 .f32) (ix3 b s k) = ((x b k s : ℝ) : EReal)
  A : ∀ o k, (V d main_call0_v20 : FVec Ideal S64x2 .f32) (ix2 o k) = ((A' o k : ℝ) : EReal)
  c : ∀ o, (V d main_call0_v23 : FVec Ideal S64x1 .f32) (ix2 o 0) = ((cv' o : ℝ) : EReal)

variable {V d}

/-- A grid point as a batch entry. -/
def bat1 (t : Fin cfg1.N) : Fin 32 := ⟨t.val, lt_of_lt_of_eq t.isLt N_1⟩

/-- The blocks of a step hold one event's particles, both ways round. -/
theorem blk1_x (h : In1 V d x A' cv') (t : Fin cfg1.N) : Holds (iblk1 V d 0 t) (iblk1 V d 1 t) (x (bat1 t)) where
  row k c := by
    refine Eq.trans ?_ (h.x0 (bat1 t) k c)
    blk_ext [iblk1, idx1 t, bat1]
  col k c := by
    refine Eq.trans ?_ (h.xt (bat1 t) c k)
    blk_ext [iblk1, idx1 t, bat1]

/-- The block of the folded weights. -/
theorem blk1_A (h : In1 V d x A' cv') (t : Fin cfg1.N) (o k) : (iblk1 V d 2 t : Vec Ideal S64x2 .f32) (ix2 o k) = ((A' o k : ℝ) : EReal) := by
  refine Eq.trans ?_ (h.A o k)
  blk_ext [iblk1, idx1 t]

/-- The block of the folded bias. -/
theorem blk1_c (h : In1 V d x A' cv') (t : Fin cfg1.N) (o) : (iblk1 V d 3 t : Vec Ideal S64x1 .f32) (ix2 o 0) = ((cv' o : ℝ) : EReal) := by
  refine Eq.trans ?_ (h.c o)
  blk_ext [iblk1, idx1 t]

/-- The layer's values after the launch. -/
theorem arr1_z (h : In1 V d x A' cv') : (dat1 V d).arrAt 4 cfg1.N = arr4 (lin1 A' cv' x) := by
  refine (dat1 V d).arrAt_eq_of_covers 4 _ (by decide +kernel) fun t _ y => ?_
  blk_simp
  rw [after1_4]
  frame_out
  unfold k1_pay25 k1_pay26 k1_pay27 k1_pay28
  simp only [View.ld_unit_zero (S := S1x4x128) z3, View.ld_unit_zero (S := S1x128x4) z3, View.ld_unit_zero (S := S64x2) z2, View.ld_unit_zero (S := S64x1) z2]
  refine (congrArg _ (eq_ix4 (n0 := 1) (n1 := 64) (n2 := 128) (n3 := 128) y)).trans ?_
  refine (z1_store (blk1_x h t) (h.pos _) (blk1_A h t) (blk1_c h t) (y 0) (y 1) (y 2) (y 3)).trans ?_
  refine (arr4_at (lin1 A' cv' x) (bat1 t) (y 1) (y 2) (y 3)).symm.trans (congrArg (arr4 (lin1 A' cv' x)) ?_)
  blk_ext [idx1 t, bat1]

/-- Their row sums after the launch. -/
theorem arr1_s (h : In1 V d x A' cv') : (dat1 V d).arrAt 5 cfg1.N = arr3 (lin1 A' cv' x) := by
  refine (dat1 V d).arrAt_eq_of_covers 5 _ (by decide +kernel) fun t _ y => ?_
  blk_simp
  rw [after1_5]
  frame_out
  unfold k1_pay25 k1_pay26 k1_pay27 k1_pay28
  simp only [View.ld_unit_zero (S := S1x4x128) z3, View.ld_unit_zero (S := S1x128x4) z3, View.ld_unit_zero (S := S64x2) z2, View.ld_unit_zero (S := S64x1) z2]
  refine (congrArg _ (eq_ix3 (n0 := 1) (n1 := 64) (n2 := 128) y)).trans ?_
  refine (s1_store (blk1_x h t) (h.pos _) (blk1_A h t) (blk1_c h t) (y 0) (y 1) (y 2)).trans ?_
  refine (arr3_at (lin1 A' cv' x) (bat1 t) (y 1) (y 2)).symm.trans (congrArg (arr3 (lin1 A' cv' x)) ?_)
  blk_ext [idx1 t, bat1]

/-- Their squares' row sums after the launch. -/
theorem arr1_q (h : In1 V d x A' cv') : (dat1 V d).arrAt 6 cfg1.N = arr3 (sq (lin1 A' cv' x)) := by
  refine (dat1 V d).arrAt_eq_of_covers 6 _ (by decide +kernel) fun t _ y => ?_
  blk_simp
  rw [after1_6]
  frame_out
  unfold k1_pay25 k1_pay26 k1_pay27 k1_pay28
  simp only [View.ld_unit_zero (S := S1x4x128) z3, View.ld_unit_zero (S := S1x128x4) z3, View.ld_unit_zero (S := S64x2) z2, View.ld_unit_zero (S := S64x1) z2]
  refine (congrArg _ (eq_ix3 (n0 := 1) (n1 := 64) (n2 := 128) y)).trans ?_
  refine (q1_store (blk1_x h t) (h.pos _) (blk1_A h t) (blk1_c h t) (y 0) (y 1) (y 2)).trans ?_
  refine (arr3_at (sq (lin1 A' cv' x)) (bat1 t) (y 1) (y 2)).symm.trans (congrArg (arr3 (sq (lin1 A' cv' x))) ?_)
  blk_ext [idx1 t, bat1]

end

end Cert.KernelIdeal.Value

end
-- ==== Proof.Region2.lean ====
/- The third launch: a later layer at every pair, and the row sums of its values and of their squares. -/
module

public import proofs.«01_k».proof.Proof.Feats
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Pairs

variable {a s : Fin 64 → ℝ} {w : Fin 64 → Fin 64 → ℝ} {b0 : Fin 64 → ℝ} {z : Fin 64 → Grid}

/-- The blocks at a grid point hold a layer's operands. -/
structure HoldsL (v0 v3 : Vec Ideal S64x1 .f32) (v6 : Vec Ideal S1x64x128x128 .f32) (v15 : Vec Ideal S64x64 .f32) (v17 : Vec Ideal S64x1 .f32)
    (b : Fin 32) (a s : Fin 64 → ℝ) (w : Fin 64 → Fin 64 → ℝ) (b0 : Fin 64 → ℝ) (z : Fin 64 → Grid) : Prop where
  a : ∀ o, v0 (ix2 o 0) = ((a o : ℝ) : EReal)
  s : ∀ o, v3 (ix2 o 0) = ((s o : ℝ) : EReal)
  z : ∀ o r c, v6 (ix4 0 o r c) = ((z o b r c : ℝ) : EReal)
  w : ∀ o k, v15 (ix2 o k) = ((w o k : ℝ) : EReal)
  b0 : ∀ o, v17 (ix2 o 0) = ((b0 o : ℝ) : EReal)

section
variable {v0 v3 : Vec Ideal S64x1 .f32} {v6 : Vec Ideal S1x64x128x128 .f32} {v15 : Vec Ideal S64x64 .f32} {v17 : Vec Ideal S64x1 .f32} {b : Fin 32}

/-- The layer's value at a pair, before it is stored. -/
theorem z2_core (h : HoldsL v0 v3 v6 v15 v17 b a s w b0 z) (o : Fin 64) (r c : Fin 128) :
    k2_pay3 v0 v3 v6 v15 v17 (ix3 o r c) = ((lin2 a s w b0 z o b r c : ℝ) : EReal) := by
  pointwise [k2_pay3]
  simp only [h.a, h.s, h.z, h.w, h.b0]
  simp only [← EReal.coe_mul, ← EReal.coe_add, relu_real, sum_real]
  rfl

/-- What a step stores of the layer. -/
theorem z2_store (h : HoldsL v0 v3 v6 v15 v17 b a s w b0 z) (i : Fin 1) (o : Fin 64) (r c : Fin 128) :
    k2_pay4 v0 v3 v6 v15 v17 (ix4 i o r c) = ((lin2 a s w b0 z o b r c : ℝ) : EReal) := by
  pointwise [k2_pay4]
  exact z2_core h o r c

/-- What a step stores of the layer's row sums. -/
theorem s2_store (h : HoldsL v0 v3 v6 v15 v17 b a s w b0 z) (i : Fin 1) (o : Fin 64) (r : Fin 128) :
    k2_pay1 (k2_pay6 v0 v3 v6 v15 v17) (ix3 i o r) = ((rsum (lin2 a s w b0 z o) b r : ℝ) : EReal) := by
  pointwise [k2_pay1, k2_pay6]
  simp only [z2_core h, mask2, ← EReal.coe_mul]
  exact sum_real _

/-- What a step stores of the row sums of the layer's squares. -/
theorem q2_store (h : HoldsL v0 v3 v6 v15 v17 b a s w b0 z) (i : Fin 1) (o : Fin 64) (r : Fin 128) :
    k2_pay2 (k2_pay3 v0 v3 v6 v15 v17) (k2_pay5 (F := Ideal)) (ix3 i o r) = ((rsum (sq (lin2 a s w b0 z) o) b r : ℝ) : EReal) := by
  pointwise [k2_pay2]
  simp only [z2_core h, mask2, ← EReal.coe_mul]
  exact sum_real _

end

variable (V : (c : Dev nD) → (b : Ref sig .tc) → Buf (Elt Ideal) ((c : Thread nD τ).loc b)) (d : Dev nD)

/-- Where each window's block lies. -/
theorem idx2 : ∀ t : Fin cfg2.N, win2_0.index t = ![t.val, 0, 0, 0] ∧ win2_1.index t = ![0, 0] ∧ win2_2.index t = ![0, 0]
    ∧ win2_3.index t = ![0, 0] ∧ win2_4.index t = ![0, 0] ∧ win2_5.index t = ![t.val, 0, 0, 0] ∧ win2_6.index t = ![t.val, 0, 0]
    ∧ win2_7.index t = ![t.val, 0, 0] :=
  (by decide +kernel : ∀ t : Fin grid2.N, _)

/-- What the launch finds in its operands. -/
structure In2 (a s : Fin 64 → ℝ) (w : Fin 64 → Fin 64 → ℝ) (b0 : Fin 64 → ℝ) (z : Fin 64 → Grid) : Prop where
  z : ∀ b o r c, (V d main_call0_v24_0 : FVec Ideal S32x64x128x128 .f32) (ix4 b o r c) = ((z o b r c : ℝ) : EReal)
  a : ∀ o, (V d main_call0_v39 : FVec Ideal S64x1 .f32) (ix2 o 0) = ((a o : ℝ) : EReal)
  s : ∀ o, (V d main_call0_v40 : FVec Ideal S64x1 .f32) (ix2 o 0) = ((s o : ℝ) : EReal)
  w : ∀ o k, (V d main_arg7 : FVec Ideal S64x64 .f32) (ix2 o k) = ((w o k : ℝ) : EReal)
  b0 : ∀ o, (V d main_call0_v41 : FVec Ideal S64x1 .f32) (ix2 o 0) = ((b0 o : ℝ) : EReal)

variable {V d}

/-- A grid point as a batch entry. -/
def bat2 (t : Fin cfg2.N) : Fin 32 := ⟨t.val, lt_of_lt_of_eq t.isLt N_2⟩

/-- The block of the scales that a step is given. -/
theorem blk2_a (h : In2 V d a s w b0 z) (t : Fin cfg2.N) o : (iblk2 V d 1 t : Vec Ideal S64x1 .f32) (ix2 o 0) = ((a o : ℝ) : EReal) := by
  refine Eq.trans ?_ (h.a o)
  blk_ext [iblk2, idx2 t]

/-- The block of the shifts that a step is given. -/
theorem blk2_s (h : In2 V d a s w b0 z) (t : Fin cfg2.N) o : (iblk2 V d 2 t : Vec Ideal S64x1 .f32) (ix2 o 0) = ((s o : ℝ) : EReal) := by
  refine Eq.trans ?_ (h.s o)
  blk_ext [iblk2, idx2 t]

/-- The block of the input that a step is given. -/
theorem blk2_z (h : In2 V d a s w b0 z) (t : Fin cfg2.N) o r c : (iblk2 V d 0 t : Vec Ideal S1x64x128x128 .f32) (ix4 0 o r c) = ((z o (bat2 t) r c : ℝ) : EReal) := by
  refine Eq.trans ?_ (h.z (bat2 t) o r c)
  blk_ext [iblk2, idx2 t, bat2]

/-- The block of the weights that a step is given. -/
theorem blk2_w (h : In2 V d a s w b0 z) (t : Fin cfg2.N) o k : (iblk2 V d 3 t : Vec Ideal S64x64 .f32) (ix2 o k) = ((w o k : ℝ) : EReal) := by
  refine Eq.trans ?_ (h.w o k)
  blk_ext [iblk2, idx2 t]

/-- The block of the biases that a step is given. -/
theorem blk2_b0 (h : In2 V d a s w b0 z) (t : Fin cfg2.N) o : (iblk2 V d 4 t : Vec Ideal S64x1 .f32) (ix2 o 0) = ((b0 o : ℝ) : EReal) := by
  refine Eq.trans ?_ (h.b0 o)
  blk_ext [iblk2, idx2 t]

/-- The blocks at a grid point hold the layer's operands. -/
theorem blk2 (h : In2 V d a s w b0 z) (t : Fin cfg2.N) :
    HoldsL (iblk2 V d 1 t) (iblk2 V d 2 t) (iblk2 V d 0 t) (iblk2 V d 3 t) (iblk2 V d 4 t) (bat2 t) a s w b0 z :=
  ⟨blk2_a h t, blk2_s h t, blk2_z h t, blk2_w h t, blk2_b0 h t⟩

/-- The layer's values after the launch. -/
theorem arr2_z (h : In2 V d a s w b0 z) : (dat2 V d).arrAt 5 cfg2.N = arr4 (lin2 a s w b0 z) := by
  refine (dat2 V d).arrAt_eq_of_covers 5 _ (by decide +kernel) fun t _ y => ?_
  blk_simp
  rw [after2_5]
  frame_out
  refine (congrArg _ (eq_ix4 (n0 := 1) (n1 := 64) (n2 := 128) (n3 := 128) y)).trans ?_
  refine (z2_store (blk2 h t) (y 0) (y 1) (y 2) (y 3)).trans ?_
  refine (arr4_at (lin2 a s w b0 z) (bat2 t) (y 1) (y 2) (y 3)).symm.trans (congrArg (arr4 (lin2 a s w b0 z)) ?_)
  blk_ext [idx2 t, bat2]

/-- Their row sums after the launch. -/
theorem arr2_s (h : In2 V d a s w b0 z) : (dat2 V d).arrAt 6 cfg2.N = arr3 (lin2 a s w b0 z) := by
  refine (dat2 V d).arrAt_eq_of_covers 6 _ (by decide +kernel) fun t _ y => ?_
  blk_simp
  rw [after2_6]
  frame_out
  refine (congrArg _ (eq_ix3 (n0 := 1) (n1 := 64) (n2 := 128) y)).trans ?_
  refine (s2_store (blk2 h t) (y 0) (y 1) (y 2)).trans ?_
  refine (arr3_at (lin2 a s w b0 z) (bat2 t) (y 1) (y 2)).symm.trans (congrArg (arr3 (lin2 a s w b0 z)) ?_)
  blk_ext [idx2 t, bat2]

/-- Their squares' row sums after the launch. -/
theorem arr2_q (h : In2 V d a s w b0 z) : (dat2 V d).arrAt 7 cfg2.N = arr3 (sq (lin2 a s w b0 z)) := by
  refine (dat2 V d).arrAt_eq_of_covers 7 _ (by decide +kernel) fun t _ y => ?_
  blk_simp
  rw [after2_7]
  frame_out
  refine (congrArg _ (eq_ix3 (n0 := 1) (n1 := 64) (n2 := 128) y)).trans ?_
  refine (q2_store (blk2 h t) (y 0) (y 1) (y 2)).trans ?_
  refine (arr3_at (sq (lin2 a s w b0 z)) (bat2 t) (y 1) (y 2)).symm.trans (congrArg (arr3 (sq (lin2 a s w b0 z))) ?_)
  blk_ext [idx2 t, bat2]

end Cert.KernelIdeal.Value

end
-- ==== Proof.Region3.lean ====
/- The fourth launch: a later layer at every pair, and the row sums of its values and of their squares. -/
module

public import proofs.«01_k».proof.Proof.Region2
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Pairs

variable {a s : Fin 64 → ℝ} {w : Fin 64 → Fin 64 → ℝ} {b0 : Fin 64 → ℝ} {z : Fin 64 → Grid}

/-- This launch runs the third one's body. -/
theorem pay4_eq : k3_pay4 (F := Ideal) = k2_pay4 (F := Ideal) := rfl
/-- This call's body agrees with the layer call before it. -/
theorem pay1_eq : k3_pay1 (F := Ideal) = k2_pay1 (F := Ideal) := rfl
/-- This call's body agrees with the layer call before it. -/
theorem pay2_eq : k3_pay2 (F := Ideal) = k2_pay2 (F := Ideal) := rfl
/-- This call's body agrees with the layer call before it. -/
theorem pay3_eq : k3_pay3 (F := Ideal) = k2_pay3 (F := Ideal) := rfl
/-- This call's body agrees with the layer call before it. -/
theorem pay5_eq : k3_pay5 (F := Ideal) = k2_pay5 (F := Ideal) := rfl
/-- This call's body agrees with the layer call before it. -/
theorem pay6_eq : k3_pay6 (F := Ideal) = k2_pay6 (F := Ideal) := rfl

variable (V : (c : Dev nD) → (b : Ref sig .tc) → Buf (Elt Ideal) ((c : Thread nD τ).loc b)) (d : Dev nD)

/-- Where each window's block lies. -/
theorem idx3 : ∀ t : Fin cfg3.N, win3_0.index t = ![t.val, 0, 0, 0] ∧ win3_1.index t = ![0, 0] ∧ win3_2.index t = ![0, 0]
    ∧ win3_3.index t = ![0, 0] ∧ win3_4.index t = ![0, 0] ∧ win3_5.index t = ![t.val, 0, 0, 0] ∧ win3_6.index t = ![t.val, 0, 0]
    ∧ win3_7.index t = ![t.val, 0, 0] :=
  (by decide +kernel : ∀ t : Fin grid3.N, _)

/-- What the launch finds in its operands. -/
structure In3 (a s : Fin 64 → ℝ) (w : Fin 64 → Fin 64 → ℝ) (b0 : Fin 64 → ℝ) (z : Fin 64 → Grid) : Prop where
  z : ∀ b o r c, (V d main_call0_v42_0 : FVec Ideal S32x64x128x128 .f32) (ix4 b o r c) = ((z o b r c : ℝ) : EReal)
  a : ∀ o, (V d main_call0_v57 : FVec Ideal S64x1 .f32) (ix2 o 0) = ((a o : ℝ) : EReal)
  s : ∀ o, (V d main_call0_v58 : FVec Ideal S64x1 .f32) (ix2 o 0) = ((s o : ℝ) : EReal)
  w : ∀ o k, (V d main_arg11 : FVec Ideal S64x64 .f32) (ix2 o k) = ((w o k : ℝ) : EReal)
  b0 : ∀ o, (V d main_call0_v59 : FVec Ideal S64x1 .f32) (ix2 o 0) = ((b0 o : ℝ) : EReal)

variable {V d}

/-- A grid point as a batch entry. -/
def bat3 (t : Fin cfg3.N) : Fin 32 := ⟨t.val, lt_of_lt_of_eq t.isLt N_3⟩

/-- The block of the scales that a step is given. -/
theorem blk3_a (h : In3 V d a s w b0 z) (t : Fin cfg3.N) o : (iblk3 V d 1 t : Vec Ideal S64x1 .f32) (ix2 o 0) = ((a o : ℝ) : EReal) := by
  refine Eq.trans ?_ (h.a o)
  blk_ext [iblk3, idx3 t]

/-- The block of the shifts that a step is given. -/
theorem blk3_s (h : In3 V d a s w b0 z) (t : Fin cfg3.N) o : (iblk3 V d 2 t : Vec Ideal S64x1 .f32) (ix2 o 0) = ((s o : ℝ) : EReal) := by
  refine Eq.trans ?_ (h.s o)
  blk_ext [iblk3, idx3 t]

/-- The block of the input that a step is given. -/
theorem blk3_z (h : In3 V d a s w b0 z) (t : Fin cfg3.N) o r c : (iblk3 V d 0 t : Vec Ideal S1x64x128x128 .f32) (ix4 0 o r c) = ((z o (bat3 t) r c : ℝ) : EReal) := by
  refine Eq.trans ?_ (h.z (bat3 t) o r c)
  blk_ext [iblk3, idx3 t, bat3]

/-- The block of the weights that a step is given. -/
theorem blk3_w (h : In3 V d a s w b0 z) (t : Fin cfg3.N) o k : (iblk3 V d 3 t : Vec Ideal S64x64 .f32) (ix2 o k) = ((w o k : ℝ) : EReal) := by
  refine Eq.trans ?_ (h.w o k)
  blk_ext [iblk3, idx3 t]

/-- The block of the biases that a step is given. -/
theorem blk3_b0 (h : In3 V d a s w b0 z) (t : Fin cfg3.N) o : (iblk3 V d 4 t : Vec Ideal S64x1 .f32) (ix2 o 0) = ((b0 o : ℝ) : EReal) := by
  refine Eq.trans ?_ (h.b0 o)
  blk_ext [iblk3, idx3 t]

/-- The blocks at a grid point hold the layer's operands. -/
theorem blk3 (h : In3 V d a s w b0 z) (t : Fin cfg3.N) :
    HoldsL (iblk3 V d 1 t) (iblk3 V d 2 t) (iblk3 V d 0 t) (iblk3 V d 3 t) (iblk3 V d 4 t) (bat3 t) a s w b0 z :=
  ⟨blk3_a h t, blk3_s h t, blk3_z h t, blk3_w h t, blk3_b0 h t⟩

/-- The layer's values after the launch. -/
theorem arr3_z (h : In3 V d a s w b0 z) : (dat3 V d).arrAt 5 cfg3.N = arr4 (lin2 a s w b0 z) := by
  refine (dat3 V d).arrAt_eq_of_covers 5 _ (by decide +kernel) fun t _ y => ?_
  blk_simp
  rw [after3_5]
  frame_out
  simp only [pay1_eq, pay2_eq, pay3_eq, pay4_eq, pay5_eq, pay6_eq]
  refine (congrArg _ (eq_ix4 (n0 := 1) (n1 := 64) (n2 := 128) (n3 := 128) y)).trans ?_
  refine (z2_store (blk3 h t) (y 0) (y 1) (y 2) (y 3)).trans ?_
  refine (arr4_at (lin2 a s w b0 z) (bat3 t) (y 1) (y 2) (y 3)).symm.trans (congrArg (arr4 (lin2 a s w b0 z)) ?_)
  blk_ext [idx3 t, bat3]

/-- Their row sums after the launch. -/
theorem arr3_s (h : In3 V d a s w b0 z) : (dat3 V d).arrAt 6 cfg3.N = arr3 (lin2 a s w b0 z) := by
  refine (dat3 V d).arrAt_eq_of_covers 6 _ (by decide +kernel) fun t _ y => ?_
  blk_simp
  rw [after3_6]
  frame_out
  simp only [pay1_eq, pay2_eq, pay3_eq, pay4_eq, pay5_eq, pay6_eq]
  refine (congrArg _ (eq_ix3 (n0 := 1) (n1 := 64) (n2 := 128) y)).trans ?_
  refine (s2_store (blk3 h t) (y 0) (y 1) (y 2)).trans ?_
  refine (arr3_at (lin2 a s w b0 z) (bat3 t) (y 1) (y 2)).symm.trans (congrArg (arr3 (lin2 a s w b0 z)) ?_)
  blk_ext [idx3 t, bat3]

/-- Their squares' row sums after the launch. -/
theorem arr3_q (h : In3 V d a s w b0 z) : (dat3 V d).arrAt 7 cfg3.N = arr3 (sq (lin2 a s w b0 z)) := by
  refine (dat3 V d).arrAt_eq_of_covers 7 _ (by decide +kernel) fun t _ y => ?_
  blk_simp
  rw [after3_7]
  frame_out
  simp only [pay1_eq, pay2_eq, pay3_eq, pay4_eq, pay5_eq, pay6_eq]
  refine (congrArg _ (eq_ix3 (n0 := 1) (n1 := 64) (n2 := 128) y)).trans ?_
  refine (q2_store (blk3 h t) (y 0) (y 1) (y 2)).trans ?_
  refine (arr3_at (sq (lin2 a s w b0 z)) (bat3 t) (y 1) (y 2)).symm.trans (congrArg (arr3 (sq (lin2 a s w b0 z))) ?_)
  blk_ext [idx3 t, bat3]

end Cert.KernelIdeal.Value

end
-- ==== Proof.Region4.lean ====
/- The last launch: scale, shift and rectification of the last layer at every pair. -/
module

public import proofs.«01_k».proof.Proof.Feats
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Pairs

/-- The last values at a pair, the shift being any extended real. -/
def fin4 (a : Fin 64 → ℝ) (s : Fin 64 → EReal) (z : Fin 64 → Grid) : S32x64x128x128.Idx → EReal := fun i =>
  max (((a (i 1) : ℝ) : EReal) * ((z (i 1) (i 0) (i 2) (i 3) : ℝ) : EReal) + s (i 1)) 0

/-- The final array at a position. -/
theorem fin4_at (a : Fin 64 → ℝ) (s : Fin 64 → EReal) (z : Fin 64 → Grid) (b : Fin 32) (o : Fin 64) (r c : Fin 128) :
    fin4 a s z (ix4 b o r c) = max (((a o : ℝ) : EReal) * ((z o b r c : ℝ) : EReal) + s o) 0 := rfl

/-- What a step stores of the result. -/
theorem fin_store (v0 v3 : Vec Ideal S64x1 .f32) (v6 : Vec Ideal S1x64x128x128 .f32) (i : Fin 1) (o : Fin 64) (r c : Fin 128) :
    k4_pay1 v0 v3 v6 (ix4 i o r c) = max (v0 (ix2 o 0) * v6 (ix4 0 o r c) + v3 (ix2 o 0)) 0 := by
  pointwise [k4_pay1]

variable (V : (c : Dev nD) → (b : Ref sig .tc) → Buf (Elt Ideal) ((c : Thread nD τ).loc b)) (d : Dev nD)

/-- Where each window's block lies. -/
theorem idx4 : ∀ t : Fin cfg4.N, win4_0.index t = ![t.val, 0, 0, 0] ∧ win4_1.index t = ![0, 0] ∧ win4_2.index t = ![0, 0]
    ∧ win4_3.index t = ![t.val, 0, 0, 0] :=
  (by decide +kernel : ∀ t : Fin grid4.N, _)

/-- What the launch finds in its operands. -/
structure In4 (a : Fin 64 → ℝ) (s : Fin 64 → EReal) (z : Fin 64 → Grid) : Prop where
  z : ∀ b o r c, (V d main_call0_v60_0 : FVec Ideal S32x64x128x128 .f32) (ix4 b o r c) = ((z o b r c : ℝ) : EReal)
  a : ∀ o, (V d main_call0_v75 : FVec Ideal S64x1 .f32) (ix2 o 0) = ((a o : ℝ) : EReal)
  s : ∀ o, (V d main_call0_v76 : FVec Ideal S64x1 .f32) (ix2 o 0) = s o

variable {V d} {a : Fin 64 → ℝ} {s : Fin 64 → EReal} {z : Fin 64 → Grid}

/-- A grid point as a batch entry. -/
def bat4 (t : Fin cfg4.N) : Fin 32 := ⟨t.val, lt_of_lt_of_eq t.isLt N_4⟩

/-- The block of the input that a step is given. -/
theorem blk4_z (h : In4 V d a s z) (t : Fin cfg4.N) (o r c) :
    (iblk4 V d 0 t : Vec Ideal S1x64x128x128 .f32) (ix4 0 o r c) = ((z o (bat4 t) r c : ℝ) : EReal) := by
  refine Eq.trans ?_ (h.z (bat4 t) o r c)
  blk_ext [iblk4, idx4 t, bat4]

/-- The block of the scales that a step is given. -/
theorem blk4_a (h : In4 V d a s z) (t : Fin cfg4.N) (o) : (iblk4 V d 1 t : Vec Ideal S64x1 .f32) (ix2 o 0) = ((a o : ℝ) : EReal) := by
  refine Eq.trans ?_ (h.a o)
  blk_ext [iblk4, idx4 t]

/-- The block of the shifts that a step is given. -/
theorem blk4_s (h : In4 V d a s z) (t : Fin cfg4.N) (o) : (iblk4 V d 2 t : Vec Ideal S64x1 .f32) (ix2 o 0) = s o := by
  refine Eq.trans ?_ (h.s o)
  blk_ext [iblk4, idx4 t]

/-- What a step stores, from the blocks that it is given. -/
theorem fin_blk (h : In4 V d a s z) (t : Fin cfg4.N) (i : Fin 1) (o : Fin 64) (r c : Fin 128) :
    k4_pay1 (F := Ideal) (iblk4 V d 1 t) (iblk4 V d 2 t) (iblk4 V d 0 t) (ix4 i o r c) = fin4 a s z (ix4 (bat4 t) o r c) := by
  rw [fin_store, blk4_z h, blk4_a h, blk4_s h, fin4_at]

/-- The result after the launch. -/
theorem arr4_y (h : In4 V d a s z) : (dat4 V d).arrAt 3 cfg4.N = fin4 a s z := by
  refine (dat4 V d).arrAt_eq_of_covers 3 _ (by decide +kernel) fun t _ y => ?_
  blk_simp
  rw [after4_3]
  frame_out
  refine (congrArg _ (eq_ix4 (n0 := 1) (n1 := 64) (n2 := 128) (n3 := 128) y)).trans ?_
  refine (fin_blk h t (y 0) (y 1) (y 2) (y 3)).trans (congrArg (fin4 a s z) ?_)
  blk_ext [idx4 t, bat4]

end Cert.KernelIdeal.Value

end
-- ==== Proof.Chain.lean ====
/- The five launches and the host stretches between them, one after the other: the kernel's result. -/
module

public import proofs.«01_k».proof.Proof.Net
public import proofs.«01_k».proof.Proof.Entry
public import proofs.«01_k».proof.Proof.Region0
public import proofs.«01_k».proof.Proof.Region1
public import proofs.«01_k».proof.Proof.Region2
public import proofs.«01_k».proof.Proof.Region3
public import proofs.«01_k».proof.Proof.Region4

@[expose] public section

set_option maxRecDepth 16384

noncomputable section

namespace Cert.KernelIdeal.Value

open Idealize.ShloMosaic Idealize.ShloMosaic.TcCoe Idealize.SL.Sem
open Cert.KernelIdeal Cert.KernelIdeal.Gen Pairs

/-- What the fifteen argument arrays hold. -/
structure Args (P : Params) (a0 : FVec Ideal S32x4x128 .f32) (a1 a2 : FVec Ideal S2 .f32) (a3 : FVec Ideal S64x2 .f32)
    (a4 a5 a6 : FVec Ideal S64 .f32) (a7 : FVec Ideal S64x64 .f32) (a8 a9 a10 : FVec Ideal S64 .f32) (a11 : FVec Ideal S64x64 .f32)
    (a12 a13 a14 : FVec Ideal S64 .f32) : Prop where
  pos : ∀ b c, 0 < rarg (P.x b 2 c) (P.x b 3 c)
  x : ∀ b k s, a0 (ix3 b k s) = ((P.x b k s : ℝ) : EReal)
  g : ∀ i, a1 (ix1 i) = ((P.g i : ℝ) : EReal)
  be : ∀ i, a2 (ix1 i) = ((P.be i : ℝ) : EReal)
  w0 : ∀ o i, a3 (ix2 o i) = ((P.w0 o i : ℝ) : EReal)
  b0 : ∀ o, a4 (ix1 o) = ((P.b0 o : ℝ) : EReal)
  g0 : ∀ o, a5 (ix1 o) = ((P.g0 o : ℝ) : EReal)
  be0 : ∀ o, a6 (ix1 o) = ((P.be0 o : ℝ) : EReal)
  w1 : ∀ o k, a7 (ix2 o k) = ((P.w1 o k : ℝ) : EReal)
  b1 : ∀ o, a8 (ix1 o) = ((P.b1 o : ℝ) : EReal)
  g1 : ∀ o, a9 (ix1 o) = ((P.g1 o : ℝ) : EReal)
  be1 : ∀ o, a10 (ix1 o) = ((P.be1 o : ℝ) : EReal)
  w2 : ∀ o k, a11 (ix2 o k) = ((P.w2 o k : ℝ) : EReal)
  b2 : ∀ o, a12 (ix1 o) = ((P.b2 o : ℝ) : EReal)
  g2 : ∀ o, a13 (ix1 o) = ((P.g2 o : ℝ) : EReal)
  be2 : ∀ o, a14 (ix1 o) = P.be2 o

variable (m : (ℓ : Loc nD τ sig) → Buf (Elt Ideal) ℓ) (ρ : Dev nD → PrngReg) (d : Dev nD)

/-- The contents of an argument of the launch memory. -/
abbrev am (b : Ref sig .tc) := m ((d : Thread nD τ).loc b)

/-- The launch memory holds the given arguments. -/
abbrev Starts (P : Params) : Prop :=
  Args P (am m d main_arg0) (am m d main_arg1) (am m d main_arg2) (am m d main_arg3) (am m d main_arg4) (am m d main_arg5) (am m d main_arg6)
    (am m d main_arg7) (am m d main_arg8) (am m d main_arg9) (am m d main_arg10) (am m d main_arg11) (am m d main_arg12) (am m d main_arg13)
    (am m d main_arg14)

/-- A vector of channels as a column. -/
theorem col_at (v : FVec Ideal S64 .f32) (o : Fin 64) : shapeCast S64x1 v shapeCasts_S64_S64x1 (ix2 o 0) = v (ix1 o) := by
  pointwise []

variable {m ρ d} {P : Params}

/-- The transposed particles at a position. -/
theorem xt_at (v : FVec Ideal S32x4x128 .f32) (b : Fin 32) (s : Fin 128) (k : Fin 4) :
    transpose S32x128x4 [0, 2, 1] v transposes_S32x4x128_S32x128x4_0_2_1 (ix3 b s k) = v (ix3 b k s) := by
  pointwise []

/-- The first launch finds the particles and their transpose. -/
theorem in0 (H : Starts m d P) : In0 (V1 m ρ) d P.x where
  pos := H.pos
  x0 b k s := (congrFun (W1_args m ρ d main_arg0 (by decide)) _).trans (H.x b k s)
  xt b s k := (congrFun (ent0_xt (W0 m ρ d)) _).trans ((xt_at _ b s k).trans (H.x b k s))

/-- The transpose is still there at the second launch. -/
theorem xt3 (H : Starts m d P) (b : Fin 32) (s : Fin 128) (k : Fin 4) :
    (V3 m ρ d main_call0_v0 : FVec Ideal S32x128x4 .f32) (ix3 b s k) = ((P.x b k s : ℝ) : EReal) :=
  (congrFun ((W3_of m ρ d main_call0_v0 (by decide)).trans (W2_of m ρ d main_call0_v0 (by decide))) _).trans ((in0 (ρ := ρ) H).xt b s k)

/-- What the first launch leaves. -/
theorem left0 (H : Starts m d P) : (W2 m ρ d (Proc.devRef .tc main_call0_v1) : FVec Ideal S32x4x128 .f32) = arr0 P.x :=
  (W2_arr m ρ d 2).trans (arr0_st (in0 H))

/-- After the first call its result holds the features' column sums. -/
theorem sums0 (H : Starts m d P) : Sums (feat P.x) (W2 m ρ d (Proc.devRef .tc main_call0_v1) : FVec Ideal S32x4x128 .f32) where
  s0 b c := (congrFun (left0 H) _).trans (arr0_at P.x b 0 c)
  s1 b c := (congrFun (left0 H) _).trans (arr0_at P.x b 1 c)
  q0 b c := (congrFun (left0 H) _).trans (arr0_at P.x b 2 c)
  q1 b c := (congrFun (left0 H) _).trans (arr0_at P.x b 3 c)

/-- What the second launch finds. -/
theorem in1 (H : Starts m d P) : In1 (V3 m ρ) d P.x (fun o i => P.w0 o i * scl (feat P.x i) (P.g i))
    (fun o => (∑ i : Fin 2, P.w0 o i * (P.be i - mean (feat P.x i) * scl (feat P.x i) (P.g i))) + P.b0 o) where
  pos := H.pos
  x0 b k s := (congrFun (W3_args m ρ d main_arg0 (by decide)) _).trans (H.x b k s)
  xt := xt3 H
  A o k := (congrFun (ent1_A (W2 m ρ d)) _).trans
    (hFold_at (sums0 H) (fun i => (congrFun (W2_args m ρ d main_arg1 (by decide)) _).trans (H.g i))
      (fun o i => (congrFun (W2_args m ρ d main_arg3 (by decide)) _).trans (H.w0 o i)) o k)
  c o := (congrFun (ent1_c (W2 m ρ d)) _).trans ((col_at _ o).trans
    (hFoldC_at (sums0 H) (fun i => (congrFun (W2_args m ρ d main_arg1 (by decide)) _).trans (H.g i))
      (fun i => (congrFun (W2_args m ρ d main_arg2 (by decide)) _).trans (H.be i))
      (fun o i => (congrFun (W2_args m ρ d main_arg3 (by decide)) _).trans (H.w0 o i))
      (fun o => (congrFun (W2_args m ρ d main_arg4 (by decide)) _).trans (H.b0 o)) o))

/-- What the second launch leaves: the first layer, its row sums and those of its squares. -/
theorem left1_z (H : Starts m d P) : (W4 m ρ d (Proc.devRef .tc main_call0_v24_0) : FVec Ideal S32x64x128x128 .f32) = arr4 (net1 P) :=
  ((W4_arr m ρ d 4).trans (arr1_z (in1 H))).trans (congrArg arr4 (net1_eq P))
/-- The second call leaves the row sums of the first layer's output. -/
theorem left1_s (H : Starts m d P) : (W4 m ρ d (Proc.devRef .tc main_call0_v24_1) : FVec Ideal S32x64x128 .f32) = arr3 (net1 P) :=
  ((W4_arr m ρ d 5).trans (arr1_s (in1 H))).trans (congrArg arr3 (net1_eq P))
/-- The second call leaves the row sums of the squares of the first layer's output. -/
theorem left1_q (H : Starts m d P) : (W4 m ρ d (Proc.devRef .tc main_call0_v24_2) : FVec Ideal S32x64x128 .f32) = arr3 (sq (net1 P)) :=
  ((W4_arr m ρ d 6).trans (arr1_q (in1 H))).trans (congrArg (fun f => arr3 (sq f)) (net1_eq P))

/-- What the third launch finds. -/
theorem in2 (H : Starts m d P) : In2 (V5 m ρ) d (fun k => scl (net1 P k) (P.g0 k)) (fun k => P.be0 k - mean (net1 P k) * scl (net1 P k) (P.g0 k))
    P.w1 P.b1 (net1 P) where
  z b o r c := (congrFun ((W5_of m ρ d main_call0_v24_0 (by decide)).trans (left1_z H)) _).trans (arr4_at _ b o r c)
  a o := (congrFun (ent2_a (W4 m ρ d)) _).trans ((col_at _ o).trans
    (hScale_at (f := net1 P) (fun b o r => (congrFun (left1_s H) _).trans (arr3_at _ b o r)) (fun b o r => (congrFun (left1_q H) _).trans (arr3_at _ b o r))
      (fun o => (congrFun (W4_args m ρ d main_arg5 (by decide)) _).trans (H.g0 o)) o))
  s o := (congrFun (ent2_s (W4 m ρ d)) _).trans ((col_at _ o).trans
    ((hShift_at (f := net1 P) (fun b o r => (congrFun (left1_s H) _).trans (arr3_at _ b o r)) (fun b o r => (congrFun (left1_q H) _).trans (arr3_at _ b o r))
      (fun o => (congrFun (W4_args m ρ d main_arg5 (by decide)) _).trans (H.g0 o)) o).trans
      (by rw [(congrFun (W4_args m ρ d main_arg6 (by decide)) _).trans (H.be0 o), ← EReal.coe_sub])))
  w o k := (congrFun (W5_args m ρ d main_arg7 (by decide)) _).trans (H.w1 o k)
  b0 o := (congrFun (ent2_b (W4 m ρ d)) _).trans ((col_at _ o).trans ((congrFun (W4_args m ρ d main_arg8 (by decide)) _).trans (H.b1 o)))

/-- The second layer as the kernel forms it. -/
theorem net2_eq : lin2 (fun k => scl (net1 P k) (P.g0 k)) (fun k => P.be0 k - mean (net1 P k) * scl (net1 P k) (P.g0 k)) P.w1 P.b1 (net1 P) = net2 P :=
  lin2_eq (net1 P) P.g0 P.be0 P.w1 P.b1

/-- What the third launch leaves: the second layer, its row sums and those of its squares. -/
theorem left2_z (H : Starts m d P) : (W6 m ρ d (Proc.devRef .tc main_call0_v42_0) : FVec Ideal S32x64x128x128 .f32) = arr4 (net2 P) :=
  ((W6_arr m ρ d 5).trans (arr2_z (in2 H))).trans (congrArg arr4 net2_eq)
/-- The third call leaves the row sums of the second layer's output. -/
theorem left2_s (H : Starts m d P) : (W6 m ρ d (Proc.devRef .tc main_call0_v42_1) : FVec Ideal S32x64x128 .f32) = arr3 (net2 P) :=
  ((W6_arr m ρ d 6).trans (arr2_s (in2 H))).trans (congrArg arr3 net2_eq)
/-- The third call leaves the row sums of the squares of the second layer's output. -/
theorem left2_q (H : Starts m d P) : (W6 m ρ d (Proc.devRef .tc main_call0_v42_2) : FVec Ideal S32x64x128 .f32) = arr3 (sq (net2 P)) :=
  ((W6_arr m ρ d 7).trans (arr2_q (in2 H))).trans (congrArg (fun f => arr3 (sq f)) net2_eq)

/-- What the fourth launch finds. -/
theorem in3 (H : Starts m d P) : In3 (V7 m ρ) d (fun k => scl (net2 P k) (P.g1 k)) (fun k => P.be1 k - mean (net2 P k) * scl (net2 P k) (P.g1 k))
    P.w2 P.b2 (net2 P) where
  z b o r c := (congrFun ((W7_of m ρ d main_call0_v42_0 (by decide)).trans (left2_z H)) _).trans (arr4_at _ b o r c)
  a o := (congrFun (ent3_a (W6 m ρ d)) _).trans ((col_at _ o).trans
    (hScale_at (f := net2 P) (fun b o r => (congrFun (left2_s H) _).trans (arr3_at _ b o r)) (fun b o r => (congrFun (left2_q H) _).trans (arr3_at _ b o r))
      (fun o => (congrFun (W6_args m ρ d main_arg9 (by decide)) _).trans (H.g1 o)) o))
  s o := (congrFun (ent3_s (W6 m ρ d)) _).trans ((col_at _ o).trans
    ((hShift_at (f := net2 P) (fun b o r => (congrFun (left2_s H) _).trans (arr3_at _ b o r)) (fun b o r => (congrFun (left2_q H) _).trans (arr3_at _ b o r))
      (fun o => (congrFun (W6_args m ρ d main_arg9 (by decide)) _).trans (H.g1 o)) o).trans
      (by rw [(congrFun (W6_args m ρ d main_arg10 (by decide)) _).trans (H.be1 o), ← EReal.coe_sub])))
  w o k := (congrFun (W7_args m ρ d main_arg11 (by decide)) _).trans (H.w2 o k)
  b0 o := (congrFun (ent3_b (W6 m ρ d)) _).trans ((col_at _ o).trans ((congrFun (W6_args m ρ d main_arg12 (by decide)) _).trans (H.b2 o)))

/-- The last layer as the kernel forms it. -/
theorem net3_eq : lin2 (fun k => scl (net2 P k) (P.g1 k)) (fun k => P.be1 k - mean (net2 P k) * scl (net2 P k) (P.g1 k)) P.w2 P.b2 (net2 P) = net3 P :=
  lin2_eq (net2 P) P.g1 P.be1 P.w2 P.b2

/-- What the fourth launch leaves: the last layer, its row sums and those of its squares. -/
theorem left3_z (H : Starts m d P) : (W8 m ρ d (Proc.devRef .tc main_call0_v60_0) : FVec Ideal S32x64x128x128 .f32) = arr4 (net3 P) :=
  ((W8_arr m ρ d 5).trans (arr3_z (in3 H))).trans (congrArg arr4 net3_eq)
/-- The fourth call leaves the row sums of the third layer's output. -/
theorem left3_s (H : Starts m d P) : (W8 m ρ d (Proc.devRef .tc main_call0_v60_1) : FVec Ideal S32x64x128 .f32) = arr3 (net3 P) :=
  ((W8_arr m ρ d 6).trans (arr3_s (in3 H))).trans (congrArg arr3 net3_eq)
/-- The fourth call leaves the row sums of the squares of the third layer's output. -/
theorem left3_q (H : Starts m d P) : (W8 m ρ d (Proc.devRef .tc main_call0_v60_2) : FVec Ideal S32x64x128 .f32) = arr3 (sq (net3 P)) :=
  ((W8_arr m ρ d 7).trans (arr3_q (in3 H))).trans (congrArg (fun f => arr3 (sq f)) net3_eq)

/-- What the last launch finds. -/
theorem in4 (H : Starts m d P) : In4 (V9 m ρ) d (fun k => scl (net3 P k) (P.g2 k))
    (fun k => P.be2 k - ((mean (net3 P k) * scl (net3 P k) (P.g2 k) : ℝ) : EReal)) (net3 P) where
  z b o r c := (congrFun ((W9_of m ρ d main_call0_v60_0 (by decide)).trans (left3_z H)) _).trans (arr4_at _ b o r c)
  a o := (congrFun (ent4_a (W8 m ρ d)) _).trans ((col_at _ o).trans
    (hScale_at (f := net3 P) (fun b o r => (congrFun (left3_s H) _).trans (arr3_at _ b o r)) (fun b o r => (congrFun (left3_q H) _).trans (arr3_at _ b o r))
      (fun o => (congrFun (W8_args m ρ d main_arg13 (by decide)) _).trans (H.g2 o)) o))
  s o := (congrFun (ent4_s (W8 m ρ d)) _).trans ((col_at _ o).trans
    ((hShift_at (f := net3 P) (fun b o r => (congrFun (left3_s H) _).trans (arr3_at _ b o r)) (fun b o r => (congrFun (left3_q H) _).trans (arr3_at _ b o r))
      (fun o => (congrFun (W8_args m ρ d main_arg13 (by decide)) _).trans (H.g2 o)) o).trans
      (by rw [(congrFun (W8_args m ρ d main_arg14 (by decide)) _).trans (H.be2 o)])))

/-- The kernel's result at every pair. -/
theorem kernel_out (H : Starts m d P) (b : Fin 32) (o : Fin 64) (r c : Fin 128) :
    (W10 m ρ d (Proc.devRef .tc main_v0) : FVec Ideal S32x64x128x128 .f32) (ix4 b o r c) = out P o b r c :=
  (congrFun ((W10_arr m ρ d 3).trans (arr4_y (in4 H))) _).trans ((fin4_at _ _ _ b o r c).trans (out_eq P o b r c))

end Cert.KernelIdeal.Value

end
-- ==== Proof.RefNet.lean ====
/- The reference's three layers, its last normalization and its two scatters: the reference's result. -/
module

public import proofs.«01_k».proof.Proof.RefFeat
public import proofs.«01_k».proof.Proof.RefNorm
public import proofs.«01_k».proof.Proof.Chain

@[expose] public section

set_option maxRecDepth 8192

noncomputable section

namespace Cert.ReferenceIdeal.Value

open Idealize.ShloMosaic Idealize.ShloMosaic.TcCoe Cert.ReferenceIdeal Cert.ReferenceIdeal.Gen Pairs

/-- The first linear layer. -/
def rLin2 (A : FVec Ideal S32x2x8256 .f32) (w : FVec Ideal S64x2 .f32) (b0 : FVec Ideal S64 .f32) : FVec Ideal S32x64x8256 .f32 :=
  addf (transpose S32x64x8256 [0, 2, 1] (Host.dotGeneral dot_S32x2x8256_S64x2_S32x8256x64_1_1_02_0_n_n none A w) transposes_S32x8256x64_S32x64x8256_0_2_1)
    (broadcastInDim S32x64x8256 ![0, 1, 2] bcast_S1x64x1_S32x64x8256_0_1_2 (broadcastInDim S1x64x1 ![1] bcast_S64_S1x64x1_1 b0))

/-- A later linear layer. -/
def rLin64 (A : FVec Ideal S32x64x8256 .f32) (w : FVec Ideal S64x64 .f32) (b0 : FVec Ideal S64 .f32) : FVec Ideal S32x64x8256 .f32 :=
  addf (transpose S32x64x8256 [0, 2, 1] (Host.dotGeneral dot_S32x64x8256_S64x64_S32x8256x64_1_1_02_0_n_n none A w) transposes_S32x8256x64_S32x64x8256_0_2_1)
    (broadcastInDim S32x64x8256 ![0, 1, 2] bcast_S1x64x1_S32x64x8256_0_1_2 (broadcastInDim S1x64x1 ![1] bcast_S64_S1x64x1_1 b0))

/-- The rectified array. -/
def rRelu (A : FVec Ideal S32x64x8256 .f32) : FVec Ideal S32x64x8256 .f32 :=
  maximumf A (broadcastInDim S32x64x8256 ![] bcast_S_S32x64x8256 (constant S_ .f32 0x00000000#32))

/-- The first linear layer at a position. -/
theorem rLin2_at {A : FVec Ideal S32x2x8256 .f32} {h : Fin 2 → Grid} (hA : ∀ b i p, A (ix3 b i p) = ((h i b (ii p) (jj p) : ℝ) : EReal))
    {w : FVec Ideal S64x2 .f32} {wr : Fin 64 → Fin 2 → ℝ} (hw : ∀ o i, w (ix2 o i) = ((wr o i : ℝ) : EReal))
    {b0 : FVec Ideal S64 .f32} {br : Fin 64 → ℝ} (hb : ∀ o, b0 (ix1 o) = ((br o : ℝ) : EReal)) (b : Fin 32) (o : Fin 64) (p : Fin 8256) :
    rLin2 A w b0 (ix3 b o p) = ((lin (wr o) h (br o) b (ii p) (jj p) : ℝ) : EReal) := by
  pointwise [rLin2]
  simp only [hA, hw, hb, ← EReal.coe_mul, sum_real, ← EReal.coe_add]
  rfl

/-- A later linear layer at a position. -/
theorem rLin64_at {A : FVec Ideal S32x64x8256 .f32} {h : Fin 64 → Grid} (hA : ∀ b i p, A (ix3 b i p) = ((h i b (ii p) (jj p) : ℝ) : EReal))
    {w : FVec Ideal S64x64 .f32} {wr : Fin 64 → Fin 64 → ℝ} (hw : ∀ o i, w (ix2 o i) = ((wr o i : ℝ) : EReal))
    {b0 : FVec Ideal S64 .f32} {br : Fin 64 → ℝ} (hb : ∀ o, b0 (ix1 o) = ((br o : ℝ) : EReal)) (b : Fin 32) (o : Fin 64) (p : Fin 8256) :
    rLin64 A w b0 (ix3 b o p) = ((lin (wr o) h (br o) b (ii p) (jj p) : ℝ) : EReal) := by
  pointwise [rLin64]
  simp only [hA, hw, hb, ← EReal.coe_mul, sum_real, ← EReal.coe_add]
  rfl

/-- The rectified array at a position. -/
theorem rRelu_at {A : FVec Ideal S32x64x8256 .f32} {h : Fin 64 → Grid} (hA : ∀ b i p, A (ix3 b i p) = ((h i b (ii p) (jj p) : ℝ) : EReal))
    (b : Fin 32) (o : Fin 64) (p : Fin 8256) : rRelu A (ix3 b o p) = ((relu (h o) b (ii p) (jj p) : ℝ) : EReal) := by
  pointwise [rRelu]
  rw [hA, relu_real]
  rfl

variable (V : Valuation τ sig (Elt Ideal))

/-- The arguments that a valuation holds. -/
abbrev Holds (P : Params) : Prop :=
  Cert.KernelIdeal.Value.Args P (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13)) (V (Proc.devRef .tc main_arg14))

/-- The reference's first layer, named. -/
theorem v116_eq : res_main_v116 V = rLin2 (rBn2 (res_main_v93 V) (V (Proc.devRef .tc main_arg1)) (V (Proc.devRef .tc main_arg2)))
    (V (Proc.devRef .tc main_arg3)) (V (Proc.devRef .tc main_arg4)) := rfl
/-- The reference's second layer, named. -/
theorem v140_eq : res_main_v140 V = rLin64 (rRelu (rBn64 (res_main_v116 V) (V (Proc.devRef .tc main_arg5)) (V (Proc.devRef .tc main_arg6))))
    (V (Proc.devRef .tc main_arg7)) (V (Proc.devRef .tc main_arg8)) := rfl
/-- The reference's third layer, named. -/
theorem v164_eq : res_main_v164 V = rLin64 (rRelu (rBn64 (res_main_v140 V) (V (Proc.devRef .tc main_arg9)) (V (Proc.devRef .tc main_arg10))))
    (V (Proc.devRef .tc main_arg11)) (V (Proc.devRef .tc main_arg12)) := rfl
/-- The reference's last normalization, named. -/
theorem v183_eq : res_main_v183 V = rRelu (rBn64 (res_main_v164 V) (V (Proc.devRef .tc main_arg13)) (V (Proc.devRef .tc main_arg14))) := rfl

variable {V} {P : Params}

/-- The first layer before its normalization. -/
theorem v116_at (H : Holds V P) (b : Fin 32) (o : Fin 64) (p : Fin 8256) :
    (res_main_v116 V : FVec Ideal S32x64x8256 .f32) (ix3 b o p) = ((net1 P o b (ii p) (jj p) : ℝ) : EReal) :=
  (congrFun (v116_eq V) _).trans (rLin2_at (rBn2_at (v93_at V H.x H.pos) H.g H.be) H.w0 H.b0 b o p)

/-- The second layer before its normalization. -/
theorem v140_at (H : Holds V P) (b : Fin 32) (o : Fin 64) (p : Fin 8256) :
    (res_main_v140 V : FVec Ideal S32x64x8256 .f32) (ix3 b o p) = ((net2 P o b (ii p) (jj p) : ℝ) : EReal) :=
  (congrFun (v140_eq V) _).trans (rLin64_at (rRelu_at (rBn64_at (v116_at H) H.g0 H.be0)) H.w1 H.b1 b o p)

/-- The last layer before its normalization. -/
theorem v164_at (H : Holds V P) (b : Fin 32) (o : Fin 64) (p : Fin 8256) :
    (res_main_v164 V : FVec Ideal S32x64x8256 .f32) (ix3 b o p) = ((net3 P o b (ii p) (jj p) : ℝ) : EReal) :=
  (congrFun (v164_eq V) _).trans (rLin64_at (rRelu_at (rBn64_at (v140_at H) H.g1 H.be1)) H.w2 H.b2 b o p)

/-- The values that the scatters write. -/
theorem v183_at (H : Holds V P) (b : Fin 32) (o : Fin 64) (p : Fin 8256) :
    (res_main_v183 V : FVec Ideal S32x64x8256 .f32) (ix3 b o p) = out P o b (ii p) (jj p) := by
  refine (congrFun (v183_eq V) _).trans ?_
  pointwise [rRelu, rBn64]
  rw [rScaled64_at (v164_at H) H.g2]
  rw [show (V (Proc.devRef .tc main_arg14) : FVec Ideal S64 .f32) (ix1 o) = P.be2 o from H.be2 o]
  rfl

/-- Two columns of positions side by side. -/
def pairOf (s t : IVec S8256 32) : IVec S8256x2 32 :=
  concatenate S8256x2 1 [⟨S8256x1, wrapped 128#32 s⟩, ⟨S8256x1, wrapped 128#32 t⟩] concatenates_S8256x1_S8256x1_S8256x2_d1

/-- Their first column. -/
theorem pair0 {s t : IVec S8256 32} {f : Fin 8256 → Fin 128} (h : ∀ p, s (ix1 p) = BitVec.ofNat 32 (f p).val) (p : Fin 8256) :
    pairOf s t (ix2 p 0) = BitVec.ofNat 32 (f p).val := by
  pointwise [pairOf]
  exact wrapped_at _ h p 0

/-- Their second column. -/
theorem pair1 {s t : IVec S8256 32} {f : Fin 8256 → Fin 128} (h : ∀ p, t (ix1 p) = BitVec.ofNat 32 (f p).val) (p : Fin 8256) :
    pairOf s t (ix2 p 1) = BitVec.ofNat 32 (f p).val := by
  pointwise [pairOf]
  exact wrapped_at _ h p 0

variable (V) in
/-- The result array as the reference forms it. -/
def rOut : FVec Ideal S32x64x128x128 .f32 :=
  Host.scatter sca (fun _ b => b) (Host.scatter sca (fun _ b => b) (broadcastInDim S32x64x128x128 ![] bcast_S_S32x64x128x128 (constant S_ .f32 0x00000000#32))
    (pairOf (res_main_c V) (res_main_c_0 V)) (res_main_v183 V : FVec Ideal S32x64x8256 .f32)) (pairOf (res_main_c_0 V) (res_main_c V))
    (res_main_v183 V : FVec Ideal S32x64x8256 .f32)

/-- The reference's result at a pair. -/
theorem reference_out (H : Holds V P) (b : Fin 32) (o : Fin 64) (r c : Fin 128) : rOut V (ix4 b o r c) = out P o b r c :=
  scatter_both _ _ _ _ (pair0 (tab_i V)) (pair1 (tab_j V)) (pair0 (tab_j V)) (pair1 (tab_i V)) (fun b o r c => out P o b r c)
    (fun b o r c => out_symm P o b r c) (v183_at H) b o r c

end Cert.ReferenceIdeal.Value

end
-- ==== Proof.PreReal.lean ====
/- What the precondition says of the arguments: they are real numbers and the rapidities' logarithms have positive arguments. -/
module

public import proofs.«01_k».proof.Defs
public import proofs.«01_k».proof.Proof.Gen.Pre_finite_with_rapidity
public import proofs.«01_k».proof.Proof.Chain
public import Idealize.ShloMosaic.Lib.ReduceAll

@[expose] public section

noncomputable section

namespace Cert.Pre_finite_with_rapidity.Value

open Idealize.ShloMosaic Idealize.ShloMosaic.TcCoe Cert.Pre_finite_with_rapidity Cert.Pre_finite_with_rapidity.Gen Pairs

/-- Every entry of an array is finite, as one bit. -/
def allFin {s : Shape} {axes : List (Fin s.rank)} (hb : S_.BroadcastsInDim s (![] : Fin 0 → Fin s.rank)) (hr : s.ReducesTo axes S_)
    (x : FVec Ideal s .f32) : IVec S_ 1 :=
  Host.reduce IntOp.andi (cmpf .olt (Host.absf x) (broadcastInDim s ![] hb (constant S_ .f32 0x7F800000#32))) (constantI S_ 1 1#1) hr h_S_

/-- Where the argument of a rapidity's logarithm is positive. -/
def rapMask (a0 : FVec Ideal S32x4x128 .f32) : IVec S32x128 1 :=
  cmpf .ogt (addf (broadcastInDim S32x128 ![] bcast_S_S32x128 (constant S_ .f32 0x3F800000#32))
    (Host.divf (mulf (broadcastInDim S32x128 ![] bcast_S_S32x128 (constant S_ .f32 0x40000000#32))
        (shapeCast S32x128 (extractStridedSlice S32x1x128 ![0, 2, 0] a0 slices_S32x4x128_S32x1x128_0_2_0) shapeCasts_S32x1x128_S32x128))
      (maximumf (broadcastInDim S32x128 ![] bcast_S_S32x128 (constant S_ .f32 0x1E3CE508#32))
        (subf (shapeCast S32x128 (extractStridedSlice S32x1x128 ![0, 3, 0] a0 slices_S32x4x128_S32x1x128_0_3_0) shapeCasts_S32x1x128_S32x128)
          (shapeCast S32x128 (extractStridedSlice S32x1x128 ![0, 2, 0] a0 slices_S32x4x128_S32x1x128_0_2_0) shapeCasts_S32x1x128_S32x128)))))
    (broadcastInDim S32x128 ![] bcast_S_S32x128 (constant S_ .f32 0x00000000#32))

/-- The precondition is the conjunction of these bits. -/
theorem fn_eq (a0 : FVec Ideal S32x4x128 .f32) (a1 a2 : FVec Ideal S2 .f32) (a3 : FVec Ideal S64x2 .f32)
    (a4 a5 a6 : FVec Ideal S64 .f32) (a7 : FVec Ideal S64x64 .f32) (a8 a9 a10 : FVec Ideal S64 .f32) (a11 : FVec Ideal S64x64 .f32)
    (a12 a13 a14 : FVec Ideal S64 .f32) :
    fn (F := Ideal) a0 a1 a2 a3 a4 a5 a6 a7 a8 a9 a10 a11 a12 a13 a14
      = andi (andi (andi (andi (andi (andi (andi (andi (andi (andi (andi (andi (andi (andi (rapMask a0) (broadcastInDim S32x128 ![] bcast_S_S32x128 (allFin bcast_S_S32x4x128 reducesTo_S32x4x128_S_d0_1_2 a0))) (broadcastInDim S32x128 ![] bcast_S_S32x128 (allFin bcast_S_S2 reducesTo_S2_S_d0 a1))) (broadcastInDim S32x128 ![] bcast_S_S32x128 (allFin bcast_S_S2 reducesTo_S2_S_d0 a2))) (broadcastInDim S32x128 ![] bcast_S_S32x128 (allFin bcast_S_S64x2 reducesTo_S64x2_S_d0_1 a3))) (broadcastInDim S32x128 ![] bcast_S_S32x128 (allFin bcast_S_S64 reducesTo_S64_S_d0 a4))) (broadcastInDim S32x128 ![] bcast_S_S32x128 (allFin bcast_S_S64 reducesTo_S64_S_d0 a5))) (broadcastInDim S32x128 ![] bcast_S_S32x128 (allFin bcast_S_S64 reducesTo_S64_S_d0 a6))) (broadcastInDim S32x128 ![] bcast_S_S32x128 (allFin bcast_S_S64x64 reducesTo_S64x64_S_d0_1 a7))) (broadcastInDim S32x128 ![] bcast_S_S32x128 (allFin bcast_S_S64 reducesTo_S64_S_d0 a8))) (broadcastInDim S32x128 ![] bcast_S_S32x128 (allFin bcast_S_S64 reducesTo_S64_S_d0 a9))) (broadcastInDim S32x128 ![] bcast_S_S32x128 (allFin bcast_S_S64 reducesTo_S64_S_d0 a10))) (broadcastInDim S32x128 ![] bcast_S_S32x128 (allFin bcast_S_S64x64 reducesTo_S64x64_S_d0_1 a11))) (broadcastInDim S32x128 ![] bcast_S_S32x128 (allFin bcast_S_S64 reducesTo_S64_S_d0 a12))) (broadcastInDim S32x128 ![] bcast_S_S32x128 (allFin bcast_S_S64 reducesTo_S64_S_d0 a13)) := rfl

/-- Both parts of a conjunction that holds. -/
theorem split_at {s : Shape} {x y : IVec s 1} {j : s.Idx} (h : andi x y j = 1#1) : x j = 1#1 ∧ y j = 1#1 := IntOp.andi_eq_one.1 h

/-- The bit is set only if every entry is a real number. -/
theorem real_of {s : Shape} {axes : List (Fin s.rank)} {hb : S_.BroadcastsInDim s (![] : Fin 0 → Fin s.rank)} {hr : s.ReducesTo axes S_}
    {x : FVec Ideal s .f32} {j : S32x128.Idx} (h : broadcastInDim S32x128 ![] bcast_S_S32x128 (allFin hb hr x) j = 1#1) (i : s.Idx) :
    x i = ((EReal.toReal (x i) : ℝ) : EReal) := by
  have : Subsingleton S_.Idx := ⟨fun a b => funext fun k => k.elim0⟩
  obtain ⟨k, e⟩ : ∃ k, allFin hb hr x k = 1#1 := ⟨_, h⟩
  have e1 := Host.reduce_andi_all _ _ hr h_S_ k e i
  have e2 : BitVec.ofBool (decide (max (x i : EReal) (-(x i : EReal)) < Ideal.ofBits .f32 0x7F800000#32)) = 1#1 := e1
  rw [lit_inf] at e2
  have e3 : max (x i : EReal) (-(x i : EReal)) < ⊤ := by
    by_contra hc
    rw [decide_eq_false hc] at e2
    exact absurd e2 (by decide)
  have e4 := max_lt_iff.1 e3
  exact (EReal.coe_toReal e4.1.ne (fun hc => absurd e4.2 (by rw [hc]; simp))).symm

/-- The mask is set only where the argument of the logarithm is positive. -/
theorem pos_of {a0 : FVec Ideal S32x4x128 .f32} {x : Fin 32 → Fin 4 → Fin 128 → ℝ} (hx : ∀ b k s, a0 (ix3 b k s) = ((x b k s : ℝ) : EReal))
    {b : Fin 32} {c : Fin 128} (h : rapMask a0 (ix2 b c) = 1#1) : 0 < rarg (x b 2 c) (x b 3 c) := by
  have e : rapMask a0 (ix2 b c) = BitVec.ofBool (decide (((0 : ℝ) : EReal) < ((rarg (x b 2 c) (x b 3 c) : ℝ) : EReal))) := by
    have hm : (max (x b 3 c - x b 2 c) c20 : ℝ) ≠ 0 := (lt_of_lt_of_le c20_pos (le_max_right _ _)).ne'
    pointwise [rapMask]
    rw [hx, hx, max_comm, lit_two, lit_c20, ← EReal.coe_mul, ← EReal.coe_sub, max_real, div_real _ hm, ← EReal.coe_one, ← EReal.coe_add]
    rfl
  rw [e] at h
  by_contra hc
  rw [decide_eq_false (fun hl => hc (EReal.coe_lt_coe_iff.1 hl))] at h
  exact absurd h (by decide)

/-- Arguments that meet the precondition are real numbers with positive arguments of the logarithms. -/
theorem args_of (a0 : FVec Ideal S32x4x128 .f32) (a1 a2 : FVec Ideal S2 .f32) (a3 : FVec Ideal S64x2 .f32)
    (a4 a5 a6 : FVec Ideal S64 .f32) (a7 : FVec Ideal S64x64 .f32) (a8 a9 a10 : FVec Ideal S64 .f32) (a11 : FVec Ideal S64x64 .f32)
    (a12 a13 a14 : FVec Ideal S64 .f32)
    (H : ∀ j, fn (F := Ideal) a0 a1 a2 a3 a4 a5 a6 a7 a8 a9 a10 a11 a12 a13 a14 j = 1#1) :
    ∃ P : Params, Cert.KernelIdeal.Value.Args P a0 a1 a2 a3 a4 a5 a6 a7 a8 a9 a10 a11 a12 a13 a14 := by
  have key : ∀ j, rapMask a0 j = 1#1 ∧ (∀ i, a0 i = ((EReal.toReal (a0 i) : ℝ) : EReal)) ∧ (∀ i, a1 i = ((EReal.toReal (a1 i) : ℝ) : EReal))
      ∧ (∀ i, a2 i = ((EReal.toReal (a2 i) : ℝ) : EReal))
      ∧ (∀ i, a3 i = ((EReal.toReal (a3 i) : ℝ) : EReal))
      ∧ (∀ i, a4 i = ((EReal.toReal (a4 i) : ℝ) : EReal))
      ∧ (∀ i, a5 i = ((EReal.toReal (a5 i) : ℝ) : EReal))
      ∧ (∀ i, a6 i = ((EReal.toReal (a6 i) : ℝ) : EReal))
      ∧ (∀ i, a7 i = ((EReal.toReal (a7 i) : ℝ) : EReal))
      ∧ (∀ i, a8 i = ((EReal.toReal (a8 i) : ℝ) : EReal))
      ∧ (∀ i, a9 i = ((EReal.toReal (a9 i) : ℝ) : EReal))
      ∧ (∀ i, a10 i = ((EReal.toReal (a10 i) : ℝ) : EReal))
      ∧ (∀ i, a11 i = ((EReal.toReal (a11 i) : ℝ) : EReal))
      ∧ (∀ i, a12 i = ((EReal.toReal (a12 i) : ℝ) : EReal))
      ∧ (∀ i, a13 i = ((EReal.toReal (a13 i) : ℝ) : EReal)) := by
    intro j
    have h := (congrFun (fn_eq a0 a1 a2 a3 a4 a5 a6 a7 a8 a9 a10 a11 a12 a13 a14) j).symm.trans (H j)
    obtain ⟨h, f13⟩ := split_at h
    obtain ⟨h, f12⟩ := split_at h
    obtain ⟨h, f11⟩ := split_at h
    obtain ⟨h, f10⟩ := split_at h
    obtain ⟨h, f9⟩ := split_at h
    obtain ⟨h, f8⟩ := split_at h
    obtain ⟨h, f7⟩ := split_at h
    obtain ⟨h, f6⟩ := split_at h
    obtain ⟨h, f5⟩ := split_at h
    obtain ⟨h, f4⟩ := split_at h
    obtain ⟨h, f3⟩ := split_at h
    obtain ⟨h, f2⟩ := split_at h
    obtain ⟨h, f1⟩ := split_at h
    obtain ⟨h, f0⟩ := split_at h
    exact ⟨h, real_of f0, real_of f1, real_of f2, real_of f3, real_of f4, real_of f5, real_of f6, real_of f7, real_of f8, real_of f9, real_of f10, real_of f11, real_of f12, real_of f13⟩
  obtain ⟨-, r0, r1, r2, r3, r4, r5, r6, r7, r8, r9, r10, r11, r12, r13⟩ := key (ix2 0 0)
  exact ⟨⟨fun b k s => EReal.toReal (a0 (ix3 b k s)), fun i => EReal.toReal (a1 (ix1 i)), fun i => EReal.toReal (a2 (ix1 i)),
    fun o i => EReal.toReal (a3 (ix2 o i)), fun o => EReal.toReal (a4 (ix1 o)), fun o => EReal.toReal (a5 (ix1 o)), fun o => EReal.toReal (a6 (ix1 o)),
    fun o i => EReal.toReal (a7 (ix2 o i)), fun o => EReal.toReal (a8 (ix1 o)), fun o => EReal.toReal (a9 (ix1 o)), fun o => EReal.toReal (a10 (ix1 o)),
    fun o i => EReal.toReal (a11 (ix2 o i)), fun o => EReal.toReal (a12 (ix1 o)), fun o => EReal.toReal (a13 (ix1 o)), fun o => a14 (ix1 o)⟩,
    { pos := fun b c => pos_of (fun b k s => r0 (ix3 b k s)) (key (ix2 b c)).1
      x := fun _ _ _ => r0 _, g := fun _ => r1 _, be := fun _ => r2 _, w0 := fun _ _ => r3 _, b0 := fun _ => r4 _, g0 := fun _ => r5 _
      be0 := fun _ => r6 _, w1 := fun _ _ => r7 _, b1 := fun _ => r8 _, g1 := fun _ => r9 _, be1 := fun _ => r10 _, w2 := fun _ _ => r11 _
      b2 := fun _ => r12 _, g2 := fun _ => r13 _, be2 := fun _ => rfl }⟩

end Cert.Pre_finite_with_rapidity.Value

end
-- ==== Proof.lean ====
/- The proof of the claims: the runs of the three programs and the equality of the kernel's result with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_with_rapidity
public import proofs.«01_k».proof.Proof.KernelRun
public import proofs.«01_k».proof.Proof.RefNet
public import proofs.«01_k».proof.Proof.PreReal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference ends with its arguments unchanged and every counter at zero. -/
theorem reference_frame : Cert.quiescent_ReferenceIdeal := fun m g _ =>
  (θ_run Cert.ReferenceIdeal.defs _ _).mono
    (fun r h => And.intro (fun c => (h c).2) (sem_eq_zero_of_no_sems (by decide) r.2)) (Cert.ReferenceIdeal.Value.run (F := Ideal) m g)

/-- Two result arrays with equal entries are equal. -/
theorem result_ext {x y : FVec Ideal Cert.KernelIdeal.S32x64x128x128 .f32} (h : ∀ b o r c, x (ix4 b o r c) = y (ix4 b o r c)) : x = y :=
  funext fun i => by
    obtain ⟨b, o, r, c, rfl⟩ : ∃ b o r c, i = ix4 b o r c := ⟨_, _, _, _, (ix4_eta i).symm⟩
    exact h b o r c

/-- The kernel's result array is the reference's: from equal arguments that meet the precondition both programs end with the same entries. -/
theorem algebraic : Cert.algebraic_KernelIdeal_ReferenceIdeal_pre_finite_with_rapidity := by
  intro m g m' g' hp he
  refine ⟨fun c => Cert.KernelIdeal.Gen.W10 m g c (Proc.devRef .tc Cert.KernelIdeal.main_v0), Cert.KernelIdeal.Value.run m g, ?_⟩
  refine (θ_run Cert.ReferenceIdeal.defs _ _).mono (fun r h c => ⟨(h c).1.trans ?_, (h c).2⟩) (Cert.ReferenceIdeal.Value.run (F := Ideal) m' g')
  obtain ⟨P, H⟩ := Cert.Pre_finite_with_rapidity.Value.args_of _ _ _ _ _ _ _ _ _ _ _ _ _ _ _ (fun j => congrFun (hp c) j)
  have H' : Cert.ReferenceIdeal.Value.Holds (StableHlo.launchContents m' c) P := by
    obtain ⟨e0, e1, e2, e3, e4, e5, e6, e7, e8, e9, e10, e11, e12, e13, e14⟩ := he c
    rw [← e0, ← e1, ← e2, ← e3, ← e4, ← e5, ← e6, ← e7, ← e8, ← e9, ← e10, ← e11, ← e12, ← e13, ← e14] at H
    exact H
  exact result_ext (fun b o r s => (Cert.ReferenceIdeal.Value.reference_out H' b o r s).trans
    (Cert.KernelIdeal.Value.kernel_out (m := m) (ρ := g) (d := c) H b o r s).symm)

/-- Every claim holds: each program ends, leaving its arguments and its counters as they were, and the kernel's result is the reference's. -/
theorem claim : Cert.Claim :=
  ⟨Cert.Kernel.Gen.facts, Cert.KernelIdeal.Gen.facts, Cert.ReferenceIdeal.Gen.facts, Cert.Pre_finite_with_rapidity.Gen.facts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
